-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_nearest [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_one_nearest [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_one_nearest [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_one_nearest : Cert.Pre_one_nearest.Facts),
    quiescent_Kernel (hKernel := hKernel)
    ∧ quiescent_KernelIdeal (hKernelIdeal := hKernelIdeal)
    ∧ quiescent_KernelIdeal_pre_one_nearest (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ preserves_Kernel_KernelIdeal
    ∧ algebraic_KernelIdeal_ReferenceIdeal_pre_one_nearest (hKernelIdeal := hKernelIdeal) (hReferenceIdeal := hReferenceIdeal) (hPre_one_nearest := hPre_one_nearest)
-- ==== Pre_one_nearest.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩

class Facts : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  natLt_1_32 : 1 < 32
  bcast_S_S4x4096 : S_.BroadcastsInDim S4x4096 (![] : Fin 0 → Fin S4x4096.rank)
  bcast_S_S4x4096x3 : S_.BroadcastsInDim S4x4096x3 (![] : Fin 0 → Fin S4x4096x3.rank)
  reducesTo_S4x4096x3_S_d0_1_2 : S4x4096x3.ReducesTo [0, 1, 2] S_
  dot_S4x4096x3_S4x4096x3_S4x4096x4096_2_2_1_1_0_0_wf : DotDims.WF S4x4096x3 S4x4096x3 S4x4096x4096 [2] [2] [1] [1] [0] [0]

variable [Facts]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf
def fn_part2 {F : FTy → Type} [FloatOps F] (main_v20 : IVec S4x4096 1) (main_v35 : IVec S4x4096 1) : IVec S4x4096 1 :=
  let main_v36 : IVec S4x4096 1 := andi main_v20 main_v35
  main_v36

def fn_part1 {F : FTy → Type} [FloatOps F] (main_arg0 : FVec F S4x4096x3 .f32) (main_arg1 : FVec F S4x4096x3 .f32) (main_arg2 : FVec F S4x4096x3 .f32) (main_v18 : IVec S4x4096 32) : IVec S4x4096 1 :=
  let main_c_3 : IVec S_ 32 := constantI S_ 32 1#32
  let main_v19 : IVec S4x4096 32 := broadcastInDim S4x4096 ![] bcast_S_S4x4096 main_c_3
  let main_v20 : IVec S4x4096 1 := cmpi .eq main_v18 main_v19
  let main_v21 : FVec F S4x4096x3 .f32 := Host.absf main_arg0
  let main_cst_4 : FVec F S_ .f32 := constant S_ .f32 0x7F800000#32
  let main_v22 : FVec F S4x4096x3 .f32 := broadcastInDim S4x4096x3 ![] bcast_S_S4x4096x3 main_cst_4
  let main_v23 : IVec S4x4096x3 1 := cmpf .olt main_v21 main_v22
  let main_c_5 : IVec S_ 1 := constantI S_ 1 1#1
  let main_v24 : IVec S_ 1 := (fun x v => Host.reduce IntOp.andi x v reducesTo_S4x4096x3_S_d0_1_2 h_S_) main_v23 main_c_5
  let main_v25 : FVec F S4x4096x3 .f32 := Host.absf main_arg1
  let main_cst_6 : FVec F S_ .f32 := constant S_ .f32 0x7F800000#32
  let main_v26 : FVec F S4x4096x3 .f32 := broadcastInDim S4x4096x3 ![] bcast_S_S4x4096x3 main_cst_6
  let main_v27 : IVec S4x4096x3 1 := cmpf .olt main_v25 main_v26
  let main_c_7 : IVec S_ 1 := constantI S_ 1 1#1
  let main_v28 : IVec S_ 1 := (fun x v => Host.reduce IntOp.andi x v reducesTo_S4x4096x3_S_d0_1_2 h_S_) main_v27 main_c_7
  let main_v29 : IVec S_ 1 := andi main_v24 main_v28
  let main_v30 : FVec F S4x4096x3 .f32 := Host.absf main_arg2
  let main_cst_8 : FVec F S_ .f32 := constant S_ .f32 0x7F800000#32
  let main_v31 : FVec F S4x4096x3 .f32 := broadcastInDim S4x4096x3 ![] bcast_S_S4x4096x3 main_cst_8
  let main_v32 : IVec S4x4096x3 1 := cmpf .olt main_v30 main_v31
  let main_c_9 : IVec S_ 1 := constantI S_ 1 1#1
  let main_v33 : IVec S_ 1 := (fun x v => Host.reduce IntOp.andi x v reducesTo_S4x4096x3_S_d0_1_2 h_S_) main_v32 main_c_9
  let main_v34 : IVec S_ 1 := andi main_v29 main_v33
  let main_v35 : IVec S4x4096 1 := broadcastInDim S4x4096 ![] bcast_S_S4x4096 main_v34
  fn_part2 (F := F) main_v20 main_v35

def fn {F : FTy → Type} [FloatOps F] (main_arg0 : FVec F S4x4096x3 .f32) (main_arg1 : FVec F S4x4096x3 .f32) (main_arg2 : FVec F S4x4096x3 .f32) : IVec S4x4096 1 :=
  let main_v0 : FVec F S4x4096x3 .f32 := mulf main_arg0 main_arg0
  let main_cst : FVec F S_ .f32 := constant S_ .f32 0x00000000#32
  let main_v1 : FVec F S4x4096 .f32 := (fun x v => Host.reduceAdd x v reducesTo_S4x4096x3_S4x4096_d2 h_S_) main_v0 main_cst
  let main_v2 : FVec F S4x4096x1 .f32 := broadcastInDim S4x4096x1 ![0, 1] bcast_S4x4096_S4x4096x1_0_1 main_v1
  let main_v3 : FVec F S4x4096x3 .f32 := mulf main_arg1 main_arg1
  let main_cst_0 : FVec F S_ .f32 := constant S_ .f32 0x00000000#32
  let main_v4 : FVec F S4x4096 .f32 := (fun x v => Host.reduceAdd x v reducesTo_S4x4096x3_S4x4096_d2 h_S_) main_v3 main_cst_0
  let main_v5 : FVec F S4x1x4096 .f32 := broadcastInDim S4x1x4096 ![0, 2] bcast_S4x4096_S4x1x4096_0_2 main_v4
  let main_v6 : FVec F S4x4096x4096 .f32 := broadcastInDim S4x4096x4096 ![0, 1, 2] bcast_S4x4096x1_S4x4096x4096_0_1_2 main_v2
  let main_v7 : FVec F S4x4096x4096 .f32 := broadcastInDim S4x4096x4096 ![0, 1, 2] bcast_S4x1x4096_S4x4096x4096_0_1_2 main_v5
  let main_v8 : FVec F S4x4096x4096 .f32 := addf main_v6 main_v7
  let main_v9 : FVec F S4x4096x4096 .f32 := (fun l r => Host.dotGeneral dot_S4x4096x3_S4x4096x3_S4x4096x4096_2_2_1_1_0_0 none l r) main_arg0 main_arg1
  let main_cst_1 : FVec F S_ .f32 := constant S_ .f32 0x40000000#32
  let main_v10 : FVec F S4x4096x4096 .f32 := broadcastInDim S4x4096x4096 ![] bcast_S_S4x4096x4096 main_cst_1
  let main_v11 : FVec F S4x4096x4096 .f32 := mulf main_v10 main_v9
  let main_v12 : FVec F S4x4096x4096 .f32 := subf main_v8 main_v11
  let main_cst_2 : FVec F S_ .f32 := constant S_ .f32 0x7F800000#32
  let main_v13 : FVec F S4x4096 .f32 := (fun x v => Host.reduce FloatOps.minimumf x v reducesTo_S4x4096x4096_S4x4096_d2 h_S_) main_v12 main_cst_2
  let main_v14 : FVec F S4x4096x1 .f32 := broadcastInDim S4x4096x1 ![0, 1] bcast_S4x4096_S4x4096x1_0_1 main_v13
  let main_v15 : FVec F S4x4096x4096 .f32 := broadcastInDim S4x4096x4096 ![0, 1, 2] bcast_S4x4096x1_S4x4096x4096_0_1_2 main_v14
  let main_v16 : IVec S4x4096x4096 1 := cmpf .oeq main_v12 main_v15
  let main_v17 : IVec S4x4096x4096 32 := (extui 32 · natLt_1_32) main_v16
  let main_c : IVec S_ 32 := constantI S_ 32 0#32
  let main_v18 : IVec S4x4096 32 := (fun x v => Host.reduce IntOp.addi x v reducesTo_S4x4096x4096_S4x4096_d2 h_S_) main_v17 main_c
  fn_part1 (F := F) main_arg0 main_arg1 main_arg2 main_v18
-- ==== Kernel.lean ====
abbrev S4x4096x3 : Shape := ⟨3, ![4, 4096, 3]⟩
abbrev S_ : Shape := ⟨0, ![]⟩
abbrev S4x4096x2 : Shape := ⟨3, ![4, 4096, 2]⟩
abbrev S4x4096x5 : Shape := ⟨3, ![4, 4096, 5]⟩
abbrev S4x3x4096 : Shape := ⟨3, ![4, 3, 4096]⟩
abbrev S4x4096 : Shape := ⟨2, ![4, 4096]⟩
abbrev S4x1x4096 : Shape := ⟨3, ![4, 1, 4096]⟩
abbrev S4x5x4096 : Shape := ⟨3, ![4, 5, 4096]⟩
abbrev S4x5x8192 : Shape := ⟨3, ![4, 5, 8192]⟩
abbrev S4x8x128 : Shape := ⟨3, ![4, 8, 128]⟩
abbrev S1x2048x5 : Shape := ⟨3, ![1, 2048, 5]⟩
abbrev S1x5x8192 : Shape := ⟨3, ![1, 5, 8192]⟩
abbrev S1x8x128 : Shape := ⟨3, ![1, 8, 128]⟩
abbrev S2048x5 : Shape := ⟨2, ![2048, 5]⟩
abbrev S5x8192 : Shape := ⟨2, ![5, 8192]⟩
abbrev S2048x8192 : Shape := ⟨2, ![2048, 8192]⟩
abbrev S2048x4096 : Shape := ⟨2, ![2048, 4096]⟩
abbrev S2048 : Shape := ⟨1, ![2048]⟩
abbrev S2048x1 : Shape := ⟨2, ![2048, 1]⟩
abbrev S1x2048 : Shape := ⟨2, ![1, 2048]⟩
abbrev S1 : Shape := ⟨1, ![1]⟩
abbrev S1x1 : Shape := ⟨2, ![1, 1]⟩
abbrev S4x1x1 : Shape := ⟨3, ![4, 1, 1]⟩
abbrev S4 : Shape := ⟨1, ![4]⟩

abbrev nBuf : Space → Nat
  | .hbm => 40
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096x2, .f32⟩
  | .hbm, ⟨5, _⟩ => ⟨S4x4096x5, .f32⟩
  | .hbm, ⟨6, _⟩ => ⟨S4x4096x5, .bf16⟩
  | .hbm, ⟨7, _⟩ => ⟨S4x3x4096, .f32⟩
  | .hbm, ⟨8, _⟩ => ⟨S4x3x4096, .f32⟩
  | .hbm, ⟨9, _⟩ => ⟨S4x3x4096, .f32⟩
  | .hbm, ⟨10, _⟩ => ⟨S_, .f32⟩
  | .hbm, ⟨11, _⟩ => ⟨S4x4096, .f32⟩
  | .hbm, ⟨12, _⟩ => ⟨S4x1x4096, .f32⟩
  | .hbm, ⟨13, _⟩ => ⟨S4x3x4096, .f32⟩
  | .hbm, ⟨14, _⟩ => ⟨S_, .f32⟩
  | .hbm, ⟨15, _⟩ => ⟨S4x4096, .f32⟩
  | .hbm, ⟨16, _⟩ => ⟨S4x1x4096, .f32⟩
  | .hbm, ⟨17, _⟩ => ⟨S4x1x4096, .bf16⟩
  | .hbm, ⟨18, _⟩ => ⟨S4x1x4096, .bf16⟩
  | .hbm, ⟨19, _⟩ => ⟨S4x1x4096, .f32⟩
  | .hbm, ⟨20, _⟩ => ⟨S4x1x4096, .f32⟩
  | .hbm, ⟨21, _⟩ => ⟨S4x1x4096, .bf16⟩
  | .hbm, ⟨22, _⟩ => ⟨S_, .bf16⟩
  | .hbm, ⟨23, _⟩ => ⟨S4x1x4096, .bf16⟩
  | .hbm, ⟨24, _⟩ => ⟨S_, .f32⟩
  | .hbm, ⟨25, _⟩ => ⟨S4x3x4096, .f32⟩
  | .hbm, ⟨26, _⟩ => ⟨S4x3x4096, .f32⟩
  | .hbm, ⟨27, _⟩ => ⟨S4x3x4096, .bf16⟩
  | .hbm, ⟨28, _⟩ => ⟨S4x5x4096, .bf16⟩
  | .hbm, ⟨29, _⟩ => ⟨S4x3x4096, .bf16⟩
  | .hbm, ⟨30, _⟩ => ⟨S4x1x4096, .f32⟩
  | .hbm, ⟨31, _⟩ => ⟨S4x1x4096, .bf16⟩
  | .hbm, ⟨32, _⟩ => ⟨S4x5x4096, .bf16⟩
  | .hbm, ⟨33, _⟩ => ⟨S4x5x8192, .bf16⟩
  | .hbm, ⟨34, _⟩ => ⟨S4x8x128, .f32⟩
  | .hbm, ⟨35, _⟩ => ⟨S4x1x1, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .local _ .vmem, ⟨0, _⟩ => ⟨S1x2048x5, .bf16⟩
  | .local _ .vmem, ⟨1, _⟩ => ⟨S1x2048x5, .bf16⟩
  | .local _ .vmem, ⟨2, _⟩ => ⟨S1x5x8192, .bf16⟩
  | .local _ .vmem, ⟨3, _⟩ => ⟨S1x5x8192, .bf16⟩
  | .local _ .vmem, ⟨4, _⟩ => ⟨S1x8x128, .f32⟩
  | .local _ .vmem, ⟨5, _⟩ => ⟨S1x8x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x5 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1 : Shape := ⟨1, ![1]⟩
abbrev S1x1x1 : Shape := ⟨3, ![1, 1, 1]⟩
abbrev S4 : Shape := ⟨1, ![4]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x3, .f32⟩
  | .hbm, ⟨8, _⟩ => ⟨S_, .f32⟩
  | .hbm, ⟨9, _⟩ => ⟨S4x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .i32⟩
  | .hbm, ⟨20, _⟩ => ⟨S_, .f32⟩
  | .hbm, ⟨21, _⟩ => ⟨S_, .i32⟩
  | .hbm, ⟨22, _⟩ => ⟨S4x4096, .f32⟩
  | .hbm, ⟨23, _⟩ => ⟨S4x4096, .i32⟩
  | .hbm, ⟨24, _⟩ => ⟨S4x4096x1, .i32⟩
  | .hbm, ⟨25, _⟩ => ⟨S_, .i32⟩
  | .hbm, ⟨26, _⟩ => ⟨S4x4096x1, .i32⟩
  | .hbm, ⟨27, _⟩ => ⟨S4x4096x1, .i1⟩
  | .hbm, ⟨28, _⟩ => ⟨S_, .i32⟩
  | .hbm, ⟨29, _⟩ => ⟨S4x4096x1, .i32⟩
  | .hbm, ⟨30, _⟩ => ⟨S4x4096x1, .i32⟩
  | .hbm, ⟨31, _⟩ => ⟨S4x4096x1, .i32⟩
  | .hbm, ⟨32, _⟩ => ⟨S1, .i32⟩
  | .hbm, ⟨33, _⟩ => ⟨S_, .i32⟩
  | .hbm, ⟨34, _⟩ => ⟨S4x4096x1, .i32⟩
  | .hbm, ⟨35, _⟩ => ⟨S4x4096x1, .i1⟩
  | .hbm, ⟨36, _⟩ => ⟨S1x1x1, .i32⟩
  | .hbm, ⟨37, _⟩ => ⟨S4x4096x1, .i32⟩
  | .hbm, ⟨38, _⟩ => ⟨S4x4096x1, .i1⟩
  | .hbm, ⟨39, _⟩ => ⟨S4x4096x1, .i1⟩
  | .hbm, ⟨40, _⟩ => ⟨S_, .i1⟩
  | .hbm, ⟨41, _⟩ => ⟨S4x4096, .i1⟩
  | .hbm, ⟨42, _⟩ => ⟨S4x4096x3, .f32⟩
  | .hbm, ⟨43, _⟩ => ⟨S4x4096x3, .i1⟩
  | .hbm, ⟨44, _⟩ => ⟨S_, .f32⟩
  | .hbm, ⟨45, _⟩ => ⟨S4x4096x3, .f32⟩
  | .hbm, ⟨46, _⟩ => ⟨S4x4096x3, .f32⟩
  | .hbm, ⟨47, _⟩ => ⟨S4x4096x1, .i32⟩
  | .hbm, ⟨48, _⟩ => ⟨S_, .i32⟩
  | .hbm, ⟨49, _⟩ => ⟨S4x4096x1, .i32⟩
  | .hbm, ⟨50, _⟩ => ⟨S4x4096x1, .i1⟩
  | .hbm, ⟨51, _⟩ => ⟨S_, .i32⟩
  | .hbm, ⟨52, _⟩ => ⟨S4x4096x1, .i32⟩
  | .hbm, ⟨53, _⟩ => ⟨S4x4096x1, .i32⟩
  | .hbm, ⟨54, _⟩ => ⟨S4x4096x1, .i32⟩
  | .hbm, ⟨55, _⟩ => ⟨S1, .i32⟩
  | .hbm, ⟨56, _⟩ => ⟨S_, .i32⟩
  | .hbm, ⟨57, _⟩ => ⟨S4x4096x1, .i32⟩
  | .hbm, ⟨58, _⟩ => ⟨S4x4096x1, .i1⟩
  | .hbm, ⟨59, _⟩ => ⟨S1x1x1, .i32⟩
  | .hbm, ⟨60, _⟩ => ⟨S4x4096x1, .i32⟩
  | .hbm, ⟨61, _⟩ => ⟨S4x4096x1, .i1⟩
  | .hbm, ⟨62, _⟩ => ⟨S4x4096x1, .i1⟩
  | .hbm, ⟨63, _⟩ => ⟨S_, .i1⟩
  | .hbm, ⟨64, _⟩ => ⟨S4x4096, .i1⟩
  | .hbm, ⟨65, _⟩ => ⟨S4x4096x3, .f32⟩
  | .hbm, ⟨66, _⟩ => ⟨S4x4096x3, .i1⟩
  | .hbm, ⟨67, _⟩ => ⟨S_, .f32⟩
  | .hbm, ⟨68, _⟩ => ⟨S4x4096x3, .f32⟩
  | .hbm, ⟨69, _⟩ => ⟨S4x4096x3, .f32⟩
  | .hbm, ⟨70, _⟩ => ⟨S4x4096x3, .f32⟩
  | .hbm, ⟨71, _⟩ => ⟨S4x4096x3, .f32⟩
  | .hbm, ⟨72, _⟩ => ⟨S_, .f32⟩
  | .hbm, ⟨73, _⟩ => ⟨S4x4096, .f32⟩
  | .hbm, ⟨74, _⟩ => ⟨S_, .f32⟩
  | .hbm, ⟨75, _⟩ => ⟨S4x4096, .f32⟩
  | .hbm, ⟨76, _⟩ => ⟨S4x4096, .i1⟩
  | .hbm, ⟨77, _⟩ => ⟨S_, .f32⟩
  | .hbm, ⟨78, _⟩ => ⟨S4x4096, .f32⟩
  | .hbm, ⟨79, _⟩ => ⟨S4x4096, .f32⟩
  | .hbm, ⟨80, _⟩ => ⟨S_, .f32⟩
  | .hbm, ⟨81, _⟩ => ⟨S4x4096, .f32⟩
  | .hbm, ⟨82, _⟩ => ⟨S4x4096, .f32⟩
  | .hbm, ⟨83, _⟩ => ⟨S4x4096, .f32⟩
  | .hbm, ⟨84, _⟩ => ⟨S_, .f32⟩
  | .hbm, ⟨85, _⟩ => ⟨S4, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S_, .f32⟩
  | .hbm, ⟨90, _⟩ => ⟨S4, .f32⟩
  | .hbm, ⟨91, _⟩ => ⟨S4, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v13 : Ref sig .tc := ⟨.hbm, 23, rfl⟩
abbrev main_v14 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_c_2 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_c_3 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v15 : Ref sig .tc := ⟨.hbm, 46, rfl⟩
abbrev main_v16 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_c_2 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_c_3 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_cst_2 : Ref sig .tc := ⟨.hbm, 72, rfl⟩
abbrev main_v20 : Ref sig .tc := ⟨.hbm, 73, rfl⟩
abbrev main_cst_3 : Ref sig .tc := ⟨.hbm, 74, rfl⟩
abbrev main_v21 : Ref sig .tc := ⟨.hbm, 75, rfl⟩
abbrev main_v22 : Ref sig .tc := ⟨.hbm, 76, rfl⟩
abbrev main_cst_4 : Ref sig .tc := ⟨.hbm, 77, rfl⟩
abbrev main_v23 : Ref sig .tc := ⟨.hbm, 78, rfl⟩
abbrev main_v24 : Ref sig .tc := ⟨.hbm, 79, rfl⟩
abbrev main_cst_5 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_6 : Ref sig .tc := ⟨.hbm, 84, rfl⟩
abbrev main_v28 : Ref sig .tc := ⟨.hbm, 85, rfl⟩
abbrev main_cst_7 : Ref sig .tc := ⟨.hbm, 86, rfl⟩
abbrev main_v29 : Ref sig .tc := ⟨.hbm, 87, rfl⟩
abbrev main_v30 : Ref sig .tc := ⟨.hbm, 88, rfl⟩
abbrev main_cst_8 : Ref sig .tc := ⟨.hbm, 89, rfl⟩
abbrev main_v31 : Ref sig .tc := ⟨.hbm, 90, rfl⟩
abbrev main_v32 : Ref sig .tc := ⟨.hbm, 91, rfl⟩

abbrev nD : Nat := 1
abbrev τ : Topo := Topo.v7x

variable {F : FTy → Type} [FloatOps F]
-- ==== Proof.RefRun.lean ====
/-
  The reference's own run. Its straight line of host operations, the called functions unfolded, is written out as a
  list; the run theorem of such a list then gives the result buffer as one composed term of the three arguments.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The terms -/

/-- The squared length of every point: the sum over the three coordinates. -/
def sq (x : FVec F S4x4096x3 .f32) : FVec F S4x4096 .f32 :=
  Host.reduceAdd (mulf x x) (constant S_ .f32 0x00000000#32) reducesTo_S4x4096x3_S4x4096_d2 h_S_

/-- The squared distances of all pairs, expanded: `(|x|² + |y|²) - 2 x·y`. -/
def dist (x y : FVec F S4x4096x3 .f32) : FVec F S4x4096x4096 .f32 :=
  subf
    (addf
      (broadcastInDim S4x4096x4096 ![0, 1, 2] bcast_S4x4096x1_S4x4096x4096_0_1_2
        (broadcastInDim S4x4096x1 ![0, 1] bcast_S4x4096_S4x4096x1_0_1 (sq x)))
      (broadcastInDim S4x4096x4096 ![0, 1, 2] bcast_S4x1x4096_S4x4096x4096_0_1_2
        (broadcastInDim S4x1x4096 ![0, 2] bcast_S4x4096_S4x1x4096_0_2 (sq y))))
    (mulf (broadcastInDim S4x4096x4096 ![] bcast_S_S4x4096x4096 (constant S_ .f32 0x40000000#32))
      (Host.dotGeneral dot_S4x4096x3_S4x4096x3_S4x4096x4096_2_2_1_1_0_0 none x y))

/-- The index of the least entry of every row. -/
def argmin (d : FVec F S4x4096x4096 .f32) : IVec S4x4096 32 := fun j =>
  (Host.argReduce reducer_argmin_f32_i32 d (iotaInDim S4x4096x4096 32 2) (constant S_ .f32 0x7F800000#32)
    (constantI S_ 32 0#32) reducesTo_S4x4096x4096_S4x4096_d2 h_S_ j).2

/-- The indices as a column. -/
def col (i : IVec S4x4096 32) : IVec S4x4096x1 32 :=
  broadcastInDim S4x4096x1 ![0, 1] bcast_S4x4096_S4x4096x1_0_1 i

/-- The index column: a negative index counts from the end. -/
def wrap (k : IVec S4x4096x1 32) : IVec S4x4096x1 32 :=
  select (cmpi .slt k (broadcastInDim S4x4096x1 ![] bcast_S_S4x4096x1 (constantI S_ 32 0#32)))
    (addi k (broadcastInDim S4x4096x1 ![] bcast_S_S4x4096x1 (constantI S_ 32 4096#32))) k

/-- Whether an index lies in the table. -/
def inRange (k : IVec S4x4096x1 32) : IVec S4x4096 1 :=
  Host.reduce IntOp.andi
    (andi (cmpi .sge k (broadcastInDim S4x4096x1 ![] bcast_S_S4x4096x1 (constantI S_ 32 0#32)))
      (cmpi .sle k (broadcastInDim S4x4096x1 ![0, 1, 2] bcast_S1x1x1_S4x4096x1_0_1_2
        (broadcastInDim S1x1x1 ![2] bcast_S1_S1x1x1_2 (constantI S1 32 4095#32)))))
    (constantI S_ 1 1#1) reducesTo_S4x4096x1_S4x4096_d2 h_S_

/-- The rows of `x` at the index column `k`, per batch; a row whose index is out of the table is the filler. -/
def takeAt (x : FVec F S4x4096x3 .f32) (k : IVec S4x4096x1 32) : FVec F S4x4096x3 .f32 :=
  select (broadcastInDim S4x4096x3 ![0, 1] bcast_S4x4096_S4x4096x3_0_1 (inRange (wrap k)))
    (Host.gather gather_S4x4096x3_S4x4096x1_S4x4096x3_2_1_0_0_1_2_113 x (wrap k))
    (broadcastInDim S4x4096x3 ![] bcast_S_S4x4096x3 (constant S_ .f32 0x7FC00000#32))

/-- The signed distance to the chosen points `p` along their normals `q`. -/
def signed (x p q : FVec F S4x4096x3 .f32) : FVec F S4x4096 .f32 :=
  Host.reduceAdd (mulf (subf x p) q) (constant S_ .f32 0x00000000#32) reducesTo_S4x4096x3_S4x4096_d2 h_S_

/-- The penalty of a signed distance: `exp (5 · s)` where `s > 0`, else `exp (5 · 0)`. -/
def penal (s : FVec F S4x4096 .f32) : FVec F S4x4096 .f32 :=
  Host.exp (mulf
    (select (cmpf .ogt s (broadcastInDim S4x4096 ![] bcast_S_S4x4096 (constant S_ .f32 0x00000000#32))) s
      (broadcastInDim S4x4096 ![] bcast_S_S4x4096 (constant S_ .f32 0x00000000#32)))
    (broadcastInDim S4x4096 ![] bcast_S_S4x4096 (constant S_ .f32 0x40A00000#32)))

/-- The result of a penalty array: the weight times its mean over the points. -/
def mean (e : FVec F S4x4096 .f32) : FVec F S4 .f32 :=
  mulf (broadcastInDim S4 ![] bcast_S_S4 (constant S_ .f32 0x3CA3D70A#32))
    (Host.divf (Host.reduceAdd e (constant S_ .f32 0x00000000#32) reducesTo_S4x4096_S4_d1 h_S_)
      (broadcastInDim S4 ![] bcast_S_S4 (constant S_ .f32 0x45800000#32)))

/-- The reference's result as a term of its arguments. -/
def out (x y n : FVec F S4x4096x3 .f32) : FVec F S4 .f32 :=
  mean (penal (signed x (takeAt y (col (argmin (dist x y)))) (takeAt n (col (argmin (dist x y))))))

/-! ## The straight line -/

/-- The operations of one `take_along_axis` call: table `x`, index column `idx`, the call's buffers `φ`. -/
abbrev takeOps (x : TRef sig ⟨S4x4096x3, .f32⟩) (idx : TRef sig ⟨S4x4096x1, .i32⟩) (φ : fn_take_along_axis.Bufs) :
    List (HloOp τ sig (Elt F)) :=
  [ TRef.nullary φ.c (constantI S_ 32 0#32),
    TRef.unary φ.c φ.v0 (broadcastInDim S4x4096x1 ![] bcast_S_S4x4096x1),
    TRef.binary idx φ.v0 φ.v1 (cmpi .slt),
    TRef.nullary φ.c_0 (constantI S_ 32 4096#32),
    TRef.unary φ.c_0 φ.v2 (broadcastInDim S4x4096x1 ![] bcast_S_S4x4096x1),
    TRef.binary idx φ.v2 φ.v3 addi,
    TRef.ternary φ.v1 φ.v3 idx φ.v4 select,
    TRef.nullary φ.c_1 (constantI S1 32 4095#32),
    TRef.nullary φ.c_2 (constantI S_ 32 0#32),
    TRef.unary φ.c_2 φ.v5 (broadcastInDim S4x4096x1 ![] bcast_S_S4x4096x1),
    TRef.binary φ.v4 φ.v5 φ.v6 (cmpi .sge),
    TRef.unary φ.c_1 φ.v7 (broadcastInDim S1x1x1 ![2] bcast_S1_S1x1x1_2),
    TRef.unary φ.v7 φ.v8 (broadcastInDim S4x4096x1 ![0, 1, 2] bcast_S1x1x1_S4x4096x1_0_1_2),
    TRef.binary φ.v4 φ.v8 φ.v9 (cmpi .sle),
    TRef.binary φ.v6 φ.v9 φ.v10 andi,
    TRef.nullary φ.c_3 (constantI S_ 1 1#1),
    TRef.binary φ.v10 φ.c_3 φ.v11 (fun x v => Host.reduce IntOp.andi x v reducesTo_S4x4096x1_S4x4096_d2 h_S_),
    TRef.binary x φ.v4 φ.v12 (fun x i => Host.gather gather_S4x4096x3_S4x4096x1_S4x4096x3_2_1_0_0_1_2_113 x i),
    TRef.unary φ.v11 φ.v13 (broadcastInDim S4x4096x3 ![0, 1] bcast_S4x4096_S4x4096x3_0_1),
    TRef.nullary φ.cst (constant S_ .f32 0x7FC00000#32),
    TRef.unary φ.cst φ.v14 (broadcastInDim S4x4096x3 ![] bcast_S_S4x4096x3),
    TRef.ternary φ.v13 φ.v12 φ.v14 φ.v15 select ]

/-- The operations up to the squared distances. -/
abbrev distOps : List (HloOp τ sig (Elt F)) :=
  [ binary main_arg0 main_arg0 main_v0 mulf,
    nullary main_cst (constant S_ .f32 0x00000000#32),
    binary main_v0 main_cst main_v1 (fun x v => Host.reduceAdd x v reducesTo_S4x4096x3_S4x4096_d2 h_S_),
    unary main_v1 main_v2 (broadcastInDim S4x4096x1 ![0, 1] bcast_S4x4096_S4x4096x1_0_1),
    binary main_arg1 main_arg1 main_v3 mulf,
    nullary main_cst_0 (constant S_ .f32 0x00000000#32),
    binary main_v3 main_cst_0 main_v4 (fun x v => Host.reduceAdd x v reducesTo_S4x4096x3_S4x4096_d2 h_S_),
    unary main_v4 main_v5 (broadcastInDim S4x1x4096 ![0, 2] bcast_S4x4096_S4x1x4096_0_2),
    unary main_v2 main_v6 (broadcastInDim S4x4096x4096 ![0, 1, 2] bcast_S4x4096x1_S4x4096x4096_0_1_2),
    unary main_v5 main_v7 (broadcastInDim S4x4096x4096 ![0, 1, 2] bcast_S4x1x4096_S4x4096x4096_0_1_2),
    binary main_v6 main_v7 main_v8 addf,
    binary main_arg0 main_arg1 main_v9 (fun l r => Host.dotGeneral dot_S4x4096x3_S4x4096x3_S4x4096x4096_2_2_1_1_0_0 none l r),
    nullary main_cst_1 (constant S_ .f32 0x40000000#32),
    unary main_cst_1 main_v10 (broadcastInDim S4x4096x4096 ![] bcast_S_S4x4096x4096),
    binary main_v10 main_v9 main_v11 mulf,
    binary main_v8 main_v11 main_v12 subf ]

/-- The least entry of each row and its index. -/
abbrev argminOps : List (HloOp τ sig (Elt F)) :=
  [ TRef.nullary main_call0.v0 (iotaInDim S4x4096x4096 32 2),
    TRef.nullary main_call0.cst (constant S_ .f32 0x7F800000#32),
    TRef.nullary main_call0.c (constantI S_ 32 0#32),
    TRef.quaternary (.of main_v12) main_call0.v0 main_call0.cst main_call0.c main_call0.v1_0 (fun x y u v j => (Host.argReduce reducer_argmin_f32_i32 x y u v reducesTo_S4x4096x4096_S4x4096_d2 h_S_ j).1),
    TRef.quaternary (.of main_v12) main_call0.v0 main_call0.cst main_call0.c main_call0.v1_1 (fun x y u v j => (Host.argReduce reducer_argmin_f32_i32 x y u v reducesTo_S4x4096x4096_S4x4096_d2 h_S_ j).2) ]

/-- The operations after the two gathers. -/
abbrev tailOps : List (HloOp τ sig (Elt F)) :=
  [ binary main_arg0 main_v15 main_v18 subf,
    binary main_v18 main_v17 main_v19 mulf,
    nullary main_cst_2 (constant S_ .f32 0x00000000#32),
    binary main_v19 main_cst_2 main_v20 (fun x v => Host.reduceAdd x v reducesTo_S4x4096x3_S4x4096_d2 h_S_),
    nullary main_cst_3 (constant S_ .f32 0x00000000#32),
    unary main_cst_3 main_v21 (broadcastInDim S4x4096 ![] bcast_S_S4x4096),
    binary main_v20 main_v21 main_v22 (cmpf .ogt),
    nullary main_cst_4 (constant S_ .f32 0x00000000#32),
    unary main_cst_4 main_v23 (broadcastInDim S4x4096 ![] bcast_S_S4x4096),
    TRef.ternary (.of main_v22) (.of main_v20) (.of main_v23) main_call3.v0 select,
    nullary main_cst_5 (constant S_ .f32 0x40A00000#32),
    unary main_cst_5 main_v25 (broadcastInDim S4x4096 ![] bcast_S_S4x4096),
    binary main_v24 main_v25 main_v26 mulf,
    unary main_v26 main_v27 Host.exp,
    nullary main_cst_6 (constant S_ .f32 0x00000000#32),
    binary main_v27 main_cst_6 main_v28 (fun x v => Host.reduceAdd x v reducesTo_S4x4096_S4_d1 h_S_),
    nullary main_cst_7 (constant S_ .f32 0x45800000#32),
    unary main_cst_7 main_v29 (broadcastInDim S4 ![] bcast_S_S4),
    binary main_v28 main_v29 main_v30 Host.divf,
    nullary main_cst_8 (constant S_ .f32 0x3CA3D70A#32),
    unary main_cst_8 main_v31 (broadcastInDim S4 ![] bcast_S_S4),
    binary main_v31 main_v30 main_v32 mulf ]

/-- The index column for the points, -/
abbrev col1 : List (HloOp τ sig (Elt F)) := [ unary main_v13 main_v14 (broadcastInDim S4x4096x1 ![0, 1] bcast_S4x4096_S4x4096x1_0_1) ]

/-- and the same for the normals. -/
abbrev col2 : List (HloOp τ sig (Elt F)) := [ unary main_v13 main_v16 (broadcastInDim S4x4096x1 ![0, 1] bcast_S4x4096_S4x4096x1_0_1) ]

/-- All the operations in order. -/
abbrev ops : List (HloOp τ sig (Elt F)) :=
  distOps ++ (argminOps ++ (col1 ++ (takeOps (.of main_arg1) (.of main_v14) main_call1
    ++ (col2 ++ (takeOps (.of main_arg2) (.of main_v16) main_call2 ++ tailOps)))))

set_option maxHeartbeats 4000000 in
/-- The reference's text is that straight line. -/
theorem main_eq (c : Dev nD) : main (F := F) c = seq ops := by
  simp only [main, fn_argmin.body, fn_take_along_axis.body, fn_where.body, List.cons_append, List.nil_append, seq,
    bind_assoc, pure_bind]
  rfl

/-! ## What each stretch leaves -/

section Stretches

variable (V : Valuation τ sig (Elt F))

theorem dist_v12 : after distOps V (main_v12 : DevRef τ sig)
    = dist (V (main_arg0 : DevRef τ sig)) (V (main_arg1 : DevRef τ sig)) := by
  after_results_simp
  rfl

theorem argmin_v13 : after argminOps V (main_v13 : DevRef τ sig) = argmin (V (main_v12 : DevRef τ sig)) := by
  after_results_simp
  rfl

theorem take1_v15 : after (takeOps (.of main_arg1) (.of main_v14) main_call1) V (main_v15 : DevRef τ sig)
    = takeAt (V (main_arg1 : DevRef τ sig)) (V (main_v14 : DevRef τ sig)) := by
  after_results_simp
  simp only [TRef.ofBuf_toBuf, TRef.ofBuf, TRef.toBuf, cast_eq]
  rfl

theorem take2_v17 : after (takeOps (.of main_arg2) (.of main_v16) main_call2) V (main_v17 : DevRef τ sig)
    = takeAt (V (main_arg2 : DevRef τ sig)) (V (main_v16 : DevRef τ sig)) := by
  after_results_simp
  simp only [TRef.ofBuf_toBuf, TRef.ofBuf, TRef.toBuf, cast_eq]
  rfl

theorem tail_v32 : after tailOps V (main_v32 : DevRef τ sig)
    = mean (penal (signed (V (main_arg0 : DevRef τ sig)) (V (main_v15 : DevRef τ sig)) (V (main_v17 : DevRef τ sig)))) := by
  after_results_simp
  rfl

end Stretches

/-- The line's result buffer holds the reference's term. -/
theorem out_eq (V : Valuation τ sig (Elt F)) : after ops V (main_v32 : DevRef τ sig)
    = out (V (main_arg0 : DevRef τ sig)) (V (main_arg1 : DevRef τ sig)) (V (main_arg2 : DevRef τ sig)) := by
  have e13 (W : Valuation τ sig (Elt F)) : after col1 W (main_v14 : DevRef τ sig) = col (W (main_v13 : DevRef τ sig)) := by
    after_results_simp
    rfl
  have e14 (W : Valuation τ sig (Elt F)) : after col2 W (main_v16 : DevRef τ sig) = col (W (main_v13 : DevRef τ sig)) := by
    after_results_simp
    rfl
  have a0 (W : Valuation τ sig (Elt F)) : after distOps W (main_arg0 : DevRef τ sig) = W (main_arg0 : DevRef τ sig) := rfl
  have a1 (W : Valuation τ sig (Elt F)) : after distOps W (main_arg1 : DevRef τ sig) = W (main_arg1 : DevRef τ sig) := rfl
  have a2 (W : Valuation τ sig (Elt F)) : after distOps W (main_arg2 : DevRef τ sig) = W (main_arg2 : DevRef τ sig) := rfl
  have b0 (W : Valuation τ sig (Elt F)) : after argminOps W (main_arg0 : DevRef τ sig) = W (main_arg0 : DevRef τ sig) := rfl
  have b1 (W : Valuation τ sig (Elt F)) : after argminOps W (main_arg1 : DevRef τ sig) = W (main_arg1 : DevRef τ sig) := rfl
  have b2 (W : Valuation τ sig (Elt F)) : after argminOps W (main_arg2 : DevRef τ sig) = W (main_arg2 : DevRef τ sig) := rfl
  have c0 (W : Valuation τ sig (Elt F)) : after col1 W (main_arg0 : DevRef τ sig) = W (main_arg0 : DevRef τ sig) := rfl
  have c1 (W : Valuation τ sig (Elt F)) : after col1 W (main_arg1 : DevRef τ sig) = W (main_arg1 : DevRef τ sig) := rfl
  have c2 (W : Valuation τ sig (Elt F)) : after col1 W (main_arg2 : DevRef τ sig) = W (main_arg2 : DevRef τ sig) := rfl
  have c3 (W : Valuation τ sig (Elt F)) : after col1 W (main_v13 : DevRef τ sig) = W (main_v13 : DevRef τ sig) := rfl
  have d0 (W : Valuation τ sig (Elt F)) : after (takeOps (.of main_arg1) (.of main_v14) main_call1) W
      (main_arg0 : DevRef τ sig) = W (main_arg0 : DevRef τ sig) := rfl
  have d2 (W : Valuation τ sig (Elt F)) : after (takeOps (.of main_arg1) (.of main_v14) main_call1) W
      (main_arg2 : DevRef τ sig) = W (main_arg2 : DevRef τ sig) := rfl
  have d3 (W : Valuation τ sig (Elt F)) : after (takeOps (.of main_arg1) (.of main_v14) main_call1) W
      (main_v13 : DevRef τ sig) = W (main_v13 : DevRef τ sig) := rfl
  have f0 (W : Valuation τ sig (Elt F)) : after col2 W (main_arg0 : DevRef τ sig) = W (main_arg0 : DevRef τ sig) := rfl
  have f2 (W : Valuation τ sig (Elt F)) : after col2 W (main_arg2 : DevRef τ sig) = W (main_arg2 : DevRef τ sig) := rfl
  have f15 (W : Valuation τ sig (Elt F)) : after col2 W (main_v15 : DevRef τ sig) = W (main_v15 : DevRef τ sig) := rfl
  have g0 (W : Valuation τ sig (Elt F)) : after (takeOps (.of main_arg2) (.of main_v16) main_call2) W
      (main_arg0 : DevRef τ sig) = W (main_arg0 : DevRef τ sig) := rfl
  have g15 (W : Valuation τ sig (Elt F)) : after (takeOps (.of main_arg2) (.of main_v16) main_call2) W
      (main_v15 : DevRef τ sig) = W (main_v15 : DevRef τ sig) := rfl
  unfold ops
  simp only [after_append]
  rw [tail_v32, g0, f0, d0, c0, b0, a0, g15, f15, take1_v15, c1, b1, a1, e13, take2_v17, f2, d2, c2, b2, a2, e14,
    d3, c3, argmin_v13, dist_v12]
  rfl

/-- The line leaves the arguments alone. -/
theorem arg0_eq (V : Valuation τ sig (Elt F)) : after ops V (main_arg0 : DevRef τ sig) = V (main_arg0 : DevRef τ sig) := rfl

theorem arg1_eq (V : Valuation τ sig (Elt F)) : after ops V (main_arg1 : DevRef τ sig) = V (main_arg1 : DevRef τ sig) := rfl

theorem arg2_eq (V : Valuation τ sig (Elt F)) : after ops V (main_arg2 : DevRef τ sig) = V (main_arg2 : DevRef τ sig) := rfl

theorem scopedRefs_eq : (Finset.univ.filter fun b : Ref sig .tc => b.isScoped) = ∅ := by decide

theorem scopedSems_eq : (Finset.univ.filter fun sm : SemLoc sig => sm.isScoped .tc) = ∅ := by decide

/-- Every operation touches the TensorCore's buffers only. -/
theorem ops_sub : (ops : List (HloOp τ sig (Elt F))).Forall fun op => op.bufs ⊆ tcRefs τ sig := by
  simp only [List.cons_append, List.nil_append, List.forall_cons, List.Forall, nullary_bufs_sub, unary_bufs_sub,
    binary_bufs_sub, ternary_bufs_sub, quaternary_bufs_sub, TRef.nullary, TRef.unary, TRef.binary, TRef.ternary,
    TRef.quaternary, and_self]

/-- The run of the line: every buffer ends at the operations' fold over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference ends with `out` of its arguments in the result buffer and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono
    (fun _ h c => ⟨(h c main_v32).trans (out_eq _), (h c main_arg0).trans (arg0_eq _),
      (h c main_arg1).trans (arg1_eq _), (h c main_arg2).trans (arg2_eq _)⟩)
    (run_main m ρ)

/-- The frame part alone: the arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

end Cert.Proof.Ref

end
-- ==== Proof.RefRead.lean ====
/-
  The reference's pieces read at an index, at the extended reals.
-/
module

public import proofs.«01_k».proof.Proof.RefRun
public import Idealize.ShloMosaic.Lib.Pointwise

@[expose] public section

set_option maxRecDepth 16384

noncomputable section

namespace Cert.Proof.Ref

open Idealize.ShloMosaic Idealize.ShloMosaic.TcCoe Idealize.SL.Sem
open Cert.ReferenceIdeal Cert.ReferenceIdeal.Gen

theorem sq_at (x : FVec Ideal S4x4096x3 .f32) (b : Fin 4) (i : Fin 4096) :
    sq x (ix2 b i) = ∑ k : Fin 3, x (ix3 b i k) * x (ix3 b i k) := by
  pointwise [sq]

theorem dist_at (x y : FVec Ideal S4x4096x3 .f32) (b : Fin 4) (i j : Fin 4096) :
    dist x y (ix3 b i j) = (sq x (ix2 b i) + sq y (ix2 b j)) - Ideal.ofBits .f32 0x40000000#32 * ∑ k : Fin 3, x (ix3 b i k) * y (ix3 b j k) := by
  pointwise [dist]

theorem signed_at (x p q : FVec Ideal S4x4096x3 .f32) (b : Fin 4) (i : Fin 4096) :
    signed x p q (ix2 b i) = ∑ k : Fin 3, (x (ix3 b i k) - p (ix3 b i k)) * q (ix3 b i k) := by
  pointwise [signed]

theorem penal_at (s : FVec Ideal S4x4096 .f32) (b : Fin 4) (i : Fin 4096) :
    penal s (ix2 b i) = Ideal.exp ((if 0 < s (ix2 b i) then s (ix2 b i) else 0) * Ideal.ofBits .f32 0x40A00000#32) := by
  pointwise [penal]

theorem mean_at (e : FVec Ideal S4x4096 .f32) (b : Fin 4) :
    mean e (ix1 b) = Ideal.ofBits .f32 0x3CA3D70A#32 * Ideal.div (∑ i : Fin 4096, e (ix2 b i)) (Ideal.ofBits .f32 0x45800000#32) := by
  pointwise [mean]

theorem col_at (k : IVec S4x4096 32) (b : Fin 4) (i : Fin 4096) (u : Fin 1) : col k (ix3 b i u) = k (ix2 b i) := by
  pointwise [col]

end Cert.Proof.Ref
-- ==== Proof.RefTake.lean ====
/-
  The reference's two index operations at the extended reals: the arg-min of a row with one least entry, and the row
  of a table that an index in range selects.
-/
module

public import proofs.«01_k».proof.Proof.RefRead

@[expose] public section

set_option maxRecDepth 16384

noncomputable section

namespace Cert.Proof.Ref

open Idealize.ShloMosaic Idealize.ShloMosaic.TcCoe Idealize.SL.Sem
open Cert.ReferenceIdeal Cert.ReferenceIdeal.Gen

/-! ## The row an index selects -/

/-- The dimension numbers of the reference's two gathers: per batch, whole rows of a table by one index each. -/
abbrev rowDims : GatherDims S4x4096x3 S4x4096x1 S4x4096x3 := gather_S4x4096x3_S4x4096x1_S4x4096x3_2_1_0_0_1_2_113

theorem gather_at (x : FVec Ideal S4x4096x3 .f32) (k : IVec S4x4096x1 32) (b : Fin 4) (i : Fin 4096) (c : Fin 3) (j : Fin 4096)
    (hk : k (ix3 b i 0) = BitVec.ofNat 32 j.val) :
    Host.gather rowDims x k (ix3 b i c) = x (ix3 b j c) := by
  unfold Host.gather
  congr 1
  funext a
  apply Fin.ext
  match a with
  | ⟨0, _⟩ =>
    show rowDims.start (ix3 b i c) k 0 + rowDims.batchCoord (ix3 b i c) 0 + rowDims.offCoord (ix3 b i c) 0 = b.val
    rw [show GatherDims.start rowDims (ix3 b i c) k 0 = 0 from dif_neg (by decide),
      GatherDims.offCoord_eq_zero _ _ _ (by decide)]
    show 0 + GatherDims.batchCoord _ _ _ + 0 = b.val
    rw [show GatherDims.batchCoord rowDims (ix3 b i c) 0 = b.val from rfl]
    omega
  | ⟨1, _⟩ =>
    show rowDims.start (ix3 b i c) k 1 + rowDims.batchCoord (ix3 b i c) 1 + rowDims.offCoord (ix3 b i c) 1 = j.val
    rw [GatherDims.batchCoord_eq_zero _ _ _ (by decide), GatherDims.offCoord_eq_zero _ _ _ (by decide)]
    have e : GatherDims.start rowDims (ix3 b i c) k 1
        = min (k (ix3 b i 0)).toInt.toNat 4095 := by
      refine (dif_pos (by decide)).trans ?_
      have : GatherDims.siIdx rowDims (ix3 b i c) ⟨0, by decide⟩ = ix3 b i 0 := by
        funext a
        match a with
        | ⟨0, _⟩ => rfl
        | ⟨1, _⟩ => rfl
        | ⟨2, _⟩ => rfl
      exact congrArg (fun q => min (k q).toInt.toNat 4095) this
    have hj : (BitVec.ofNat 32 j.val).toInt.toNat = j.val := by
      rw [BitVec.toInt_eq_toNat_of_lt (by rw [BitVec.toNat_ofNat]; omega), BitVec.toNat_ofNat]
      omega
    show GatherDims.start _ _ _ _ + 0 + 0 = j.val
    refine (congrArg (· + 0 + 0) e).trans ?_
    rw [hk, hj]
    omega
  | ⟨2, _⟩ =>
    show rowDims.start (ix3 b i c) k 2 + rowDims.batchCoord (ix3 b i c) 2 + rowDims.offCoord (ix3 b i c) 2 = c.val
    rw [show GatherDims.start rowDims (ix3 b i c) k 2 = 0 from dif_neg (by decide),
      GatherDims.batchCoord_eq_zero _ _ _ (by decide)]
    show 0 + 0 + GatherDims.offCoord _ _ _ = c.val
    rw [show GatherDims.offCoord rowDims (ix3 b i c) 2 = c.val from rfl]
    omega

/-- An index below the table's length is not negative as a signed word. -/
theorem ofNat_toInt (j : Fin 4096) : (BitVec.ofNat 32 j.val).toInt = j.val := by
  rw [BitVec.toInt_eq_toNat_of_lt (by rw [BitVec.toNat_ofNat]; omega), BitVec.toNat_ofNat]
  omega

theorem wrap_of (k : IVec S4x4096x1 32) (b : Fin 4) (i : Fin 4096) (u : Fin 1) (j : Fin 4096)
    (hk : k (ix3 b i u) = BitVec.ofNat 32 j.val) : wrap k (ix3 b i u) = BitVec.ofNat 32 j.val := by
  have e : wrap k (ix3 b i u) = Scalar.select (IntOp.cmpi CmpIPredicate.slt (k (ix3 b i u)) 0#32)
      (IntOp.addi (k (ix3 b i u)) 4096#32) (k (ix3 b i u)) := by pointwise [wrap]
  rw [e, hk]
  have : IntOp.cmpi CmpIPredicate.slt (BitVec.ofNat 32 j.val) 0#32 = 0#1 := by
    have h := ofNat_toInt j
    have h' : ¬((j.val : ℕ) : ℤ) < 0 := by omega
    simp only [IntOp.cmpi, BitVec.slt, h]
    simp [h']
  rw [this]
  rfl

theorem inRange_of (k : IVec S4x4096x1 32) (b : Fin 4) (i : Fin 4096) (j : Fin 4096)
    (hk : k (ix3 b i 0) = BitVec.ofNat 32 j.val) : inRange k (ix2 b i) = 1#1 := by
  have e : inRange k (ix2 b i) = Finset.fold IntOp.andi (1#1)
      (fun x => IntOp.andi (IntOp.cmpi CmpIPredicate.sge (k (ix3 b i x)) 0#32)
          (IntOp.cmpi CmpIPredicate.sle (k (ix3 b i x)) 4095#32)) (Finset.univ : Finset (Fin 1)) := by pointwise [inRange]
  have h := ofNat_toInt j
  have hle : ((j.val : ℕ) : ℤ) ≤ 4095 := by omega
  rw [e, Finset.univ_unique, Finset.fold_singleton]
  show IntOp.andi (IntOp.andi (IntOp.cmpi _ (k (ix3 b i 0)) _) (IntOp.cmpi _ (k (ix3 b i 0)) _)) _ = _
  rw [hk]
  have h1 : IntOp.cmpi CmpIPredicate.sge (BitVec.ofNat 32 j.val) 0#32 = 1#1 := by
    simp [IntOp.cmpi, BitVec.sle, h]
  have h2 : IntOp.cmpi CmpIPredicate.sle (BitVec.ofNat 32 j.val) 4095#32 = 1#1 := by
    simp [IntOp.cmpi, BitVec.sle, h, hle]
  rw [h1, h2]
  rfl

/-- Where the index is `j`, below the table's length, the row taken is row `j`. -/
theorem takeAt_of (x : FVec Ideal S4x4096x3 .f32) (k : IVec S4x4096x1 32) (b : Fin 4) (i : Fin 4096) (c : Fin 3) (j : Fin 4096)
    (hk : k (ix3 b i 0) = BitVec.ofNat 32 j.val) : takeAt x k (ix3 b i c) = x (ix3 b j c) := by
  have e : takeAt x k (ix3 b i c) = Scalar.select (inRange (wrap k) (ix2 b i))
      (Host.gather rowDims x (wrap k) (ix3 b i c))
      (Ideal.ofBits FTy.f32 2143289344#32) := by pointwise [takeAt]
  have hw := wrap_of k b i 0 j hk
  rw [e, inRange_of (wrap k) b i j hw, gather_at x (wrap k) b i c j hw]
  rfl

/-! ## The arg-min of a row with one least entry -/

/-- A left fold whose body keeps the one least pair `p` against every greater one ends at `p` once it has met `p`. -/
theorem foldl_least {α β : Type} [LinearOrder α] (f : α × β → α × β → α × β) (p : α × β) (hpp : f p p = p)
    (hl : ∀ q, p.1 < q.1 → f p q = p) (hr : ∀ q, p.1 < q.1 → f q p = p)
    (hq : ∀ q q', p.1 < q.1 → p.1 < q'.1 → p.1 < (f q q').1) :
    ∀ (l : List (α × β)) (a : α × β), (∀ q ∈ l, q = p ∨ p.1 < q.1) → (a = p ∨ p.1 < a.1 ∧ p ∈ l) → l.foldl f a = p := by
  intro l
  induction l with
  | nil => intro a _ ha; rcases ha with rfl | ⟨_, h⟩; · rfl
           · exact absurd h List.not_mem_nil
  | cons x l ih =>
    intro a hx ha
    have hl' : ∀ q ∈ l, q = p ∨ p.1 < q.1 := fun q h => hx q (List.mem_cons_of_mem _ h)
    refine ih (f a x) hl' ?_
    rcases hx x List.mem_cons_self with rfl | hxp
    · left
      rcases ha with rfl | ⟨ha, _⟩
      · exact hpp
      · exact hr a ha
    · rcases ha with rfl | ⟨ha, hm⟩
      · exact .inl (hl x hxp)
      · refine .inr ⟨hq a x ha hxp, ?_⟩
        rcases List.mem_cons.mp hm with rfl | h
        · exact absurd hxp (lt_irrefl _)
        · exact h

theorem reducer_eq (a b : Ideal .f32 × BitVec 32) :
    reducer_argmin_f32_i32 (F := Ideal) a b
      = if a.1 < b.1 then a else if a.1 = b.1 then (b.1, if a.2.slt b.2 then a.2 else b.2) else b := by
  obtain ⟨a1, a2⟩ := a
  obtain ⟨b1, b2⟩ := b
  unfold reducer_argmin_f32_i32
  rcases lt_trichotomy a1 b1 with h1 | h1 | h1
  · simp [h1, h1.ne, Ideal.cmpf_def, Ideal.cmp, IntOp.ori, IntOp.andi, IntOp.cmpi, Scalar.select]
  · subst h1
    by_cases h2 : a2.slt b2 <;> simp [h2, Ideal.cmpf_def, Ideal.cmp, IntOp.ori, IntOp.andi, IntOp.cmpi, Scalar.select]
  · simp [h1.not_gt, h1.ne', Ideal.cmpf_def, Ideal.cmp, IntOp.ori, IntOp.andi, IntOp.cmpi, Scalar.select]

/-- An index of the distance array that lies over `(b, i)` is `(b, i, j)` with its own last coordinate. -/
theorem over_eq (b : Fin 4) (i : Fin 4096) (q : S4x4096x4096.Idx)
    (h : reducesTo_S4x4096x4096_S4x4096_d2.drop q = ix2 b i) : q = ix3 b i (q 2) := by
  have h0 := Shape.ReducesTo.drop_apply_val_of_eq reducesTo_S4x4096x4096_S4x4096_d2 q 0 0
  have h1 := Shape.ReducesTo.drop_apply_val_of_eq reducesTo_S4x4096x4096_S4x4096_d2 q 1 1
  rw [h] at h0 h1
  funext a
  apply Fin.ext
  match a with
  | ⟨0, _⟩ => exact h0.symm
  | ⟨1, _⟩ => exact h1.symm
  | ⟨2, _⟩ => rfl

/-- and `(b, i, j)` lies over `(b, i)`. -/
theorem drop_ix3 (b : Fin 4) (i j : Fin 4096) : reducesTo_S4x4096x4096_S4x4096_d2.drop (ix3 b i j) = ix2 b i := by
  funext a
  apply Fin.ext
  match a with
  | ⟨0, _⟩ => exact Shape.ReducesTo.drop_apply_val_of_eq reducesTo_S4x4096x4096_S4x4096_d2 (ix3 b i j) 0 0
  | ⟨1, _⟩ => exact Shape.ReducesTo.drop_apply_val_of_eq reducesTo_S4x4096x4096_S4x4096_d2 (ix3 b i j) 1 1

/-- An arg-reduction by the arg-min's body, from an initial value above some entry, over the indices that drop to `j`:
    the pair at `k` when its value is less than that of every other pair. -/
theorem argReduce_least {s t u : Shape} {axes : List (Fin s.rank)} (x : FVec Ideal s .f32) (y : IVec s 32)
    (ix : FVec Ideal u .f32) (iy : IVec u 32) (h : s.ReducesTo axes t) (hu : 0 < u.numel) (j : t.Idx) (k : s.Idx)
    (hk : h.drop k = j) (hix : x k < ix (Shape.Idx.first hu)) (hmin : ∀ i, h.drop i = j → i ≠ k → x k < x i) :
    Host.argReduce (reducer_argmin_f32_i32 (F := Ideal)) x y ix iy h hu j = (x k, y k) := by
  rw [Ideal.argReduce_eq_reduce2, Host.reduce2_eq_foldl_fiber]
  refine foldl_least (reducer_argmin_f32_i32 (F := Ideal)) (x k, y k)
    (by rw [reducer_eq]; simp) (fun q hq => by rw [reducer_eq, if_pos hq])
    (fun q hq => by rw [reducer_eq, if_neg hq.not_gt, if_neg hq.ne'])
    (fun q q' hq hq' => by
      rw [reducer_eq]
      split
      · exact hq
      · split
        · exact hq'
        · exact hq') _ _ (fun q hq => ?_) (.inr ⟨hix, ?_⟩)
  · unfold Host.argReduceFiber at hq
    obtain ⟨n, hn, rfl⟩ := List.mem_map.mp hq
    by_cases hnk : s.rowMajor.symm n = k
    · exact .inl (by rw [hnk])
    · exact .inr (hmin _ (of_decide_eq_true (List.mem_filter.mp hn).2) hnk)
  · unfold Host.argReduceFiber
    refine List.mem_map.mpr ⟨s.rowMajor k, List.mem_filter.mpr ⟨List.mem_finRange _, ?_⟩, ?_⟩
    · rw [Equiv.symm_apply_apply]
      exact decide_eq_true hk
    · rw [Equiv.symm_apply_apply]

theorem ofBits_inf : Ideal.ofBits .f32 0x7F800000#32 = ⊤ := by simp [Ideal.ofBits, Ideal.ieee]

/-- The pair the arg-min's reduction ends with, in a row whose entry at `j` is less than every other. -/
theorem argmin_pair (d : FVec Ideal S4x4096x4096 .f32) (b : Fin 4) (i j : Fin 4096) (hfin : d (ix3 b i j) < (⊤ : EReal))
    (hmin : ∀ j', j' ≠ j → d (ix3 b i j) < d (ix3 b i j')) :
    Host.argReduce (reducer_argmin_f32_i32 (F := Ideal)) d (iotaInDim S4x4096x4096 32 2) (constant S_ .f32 0x7F800000#32)
      (constantI S_ 32 0#32) reducesTo_S4x4096x4096_S4x4096_d2 h_S_ (ix2 b i)
      = (d (ix3 b i j), iotaInDim S4x4096x4096 32 2 (ix3 b i j)) := by
  refine argReduce_least _ _ _ _ _ _ _ _ (drop_ix3 b i j) (lt_of_lt_of_eq hfin ofBits_inf.symm) fun q hq hne => ?_
  have e := over_eq b i q hq
  have h2 : q 2 ≠ j := fun h => hne (e.trans (congrArg (ix3 b i) h))
  exact lt_of_lt_of_eq (hmin (q 2) h2) (congrArg d e.symm)

/-- The second components of a family of pairs. -/
def second {ι α β : Type} (f : ι → α × β) : ι → β := fun j => (f j).2

theorem second_of {ι α β : Type} (f : ι → α × β) (j : ι) (a : α) (b : β) (h : f j = (a, b)) : second f j = b := by
  unfold second
  rw [h]

theorem argmin_second (d : FVec Ideal S4x4096x4096 .f32) :
    argmin d = second (Host.argReduce (reducer_argmin_f32_i32 (F := Ideal)) d (iotaInDim S4x4096x4096 32 2)
      (constant S_ .f32 0x7F800000#32) (constantI S_ 32 0#32) reducesTo_S4x4096x4096_S4x4096_d2 h_S_) := rfl

/-- The arg-min of a row whose entry at `j` is less than every other is `j`. -/
theorem argmin_at (d : FVec Ideal S4x4096x4096 .f32) (b : Fin 4) (i j : Fin 4096) (hfin : d (ix3 b i j) < (⊤ : EReal))
    (hmin : ∀ j', j' ≠ j → d (ix3 b i j) < d (ix3 b i j')) : argmin d (ix2 b i) = BitVec.ofNat 32 j.val :=
  (congrFun (argmin_second d) (ix2 b i)).trans (second_of _ _ _ _ (argmin_pair d b i j hfin hmin))

end Cert.Proof.Ref
-- ==== Proof.Middle.lean ====
/-
  The number both programs compute, written plainly over the real coordinates of the points `X`, the candidates `Y` and
  their normals `N`: the weight times the mean penalty of the signed distances to each point's nearest candidate `J`.
-/
module

public import Idealize.ShloMosaic.Lib.Pointwise

@[expose] public section

set_option maxRecDepth 16384

noncomputable section

namespace Cert.Proof.Mid

open Idealize.ShloMosaic

/-- Coordinates of four batches of 4096 points. -/
abbrev Coords : Type := Fin 4 → Fin 4096 → Fin 3 → ℝ

/-- The squared distance of point `i` and candidate `j`, expanded. -/
def sqDist (X Y : Coords) (b : Fin 4) (i j : Fin 4096) : ℝ :=
  (∑ c, X b i c * X b i c + ∑ c, Y b j c * Y b j c) - 2 * ∑ c, X b i c * Y b j c

/-- The same without the point's squared length. -/
def relDist (X Y : Coords) (b : Fin 4) (i j : Fin 4096) : ℝ :=
  ∑ c, Y b j c * Y b j c - 2 * ∑ c, X b i c * Y b j c

/-- The signed distance of point `i` to candidate `j` along its normal. -/
def along (X Y N : Coords) (b : Fin 4) (i j : Fin 4096) : ℝ := ∑ c, (X b i c - Y b j c) * N b j c

theorem relDist_lt (X Y : Coords) (b : Fin 4) (i j j' : Fin 4096) (h : sqDist X Y b i j < sqDist X Y b i j') :
    relDist X Y b i j < relDist X Y b i j' := by
  unfold sqDist at h
  unfold relDist
  linarith

/-- The penalty of a signed distance `s`. -/
def penalty (s : ℝ) : EReal := Ideal.exp (Ideal.ofBits .f32 0x40A00000#32 * ((max s 0 : ℝ) : EReal))

/-- The result for a batch: the weight times the mean penalty. -/
def value (X Y N : Coords) (J : Fin 4 → Fin 4096 → Fin 4096) (b : Fin 4) : EReal :=
  Ideal.ofBits .f32 0x3CA3D70A#32
    * Ideal.div (∑ i : Fin 4096, penalty (along X Y N b i (J b i))) (Ideal.ofBits .f32 0x45800000#32)

/-! ## The printed constants, and folds of extrema -/

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

theorem coe_max (s : ℝ) : ((max s 0 : ℝ) : EReal) = max (s : EReal) 0 := by
  rw [← EReal.coe_zero]
  exact Monotone.map_max (fun a b h => EReal.coe_le_coe_iff.mpr h)

theorem fold_min_eq {n : Nat} (f : Fin n → EReal) (j : Fin n) (h : ∀ j', f j ≤ f j') : Finset.univ.fold min ⊤ f = f j :=
  le_antisymm (Finset.fold_min_le (f j) |>.mpr (.inr ⟨j, Finset.mem_univ j, le_rfl⟩))
    (Finset.le_fold_min (f j) |>.mpr ⟨le_top, fun j' _ => h j'⟩)

theorem fold_max_eq {n : Nat} (f : Fin n → EReal) (j : Fin n) (h : ∀ j', f j' ≤ f j) : Finset.univ.fold max ⊥ f = f j :=
  le_antisymm (Finset.fold_max_le (f j) |>.mpr ⟨bot_le, fun j' _ => h j'⟩)
    (Finset.le_fold_max (f j) |>.mpr (.inr ⟨j, Finset.mem_univ j, le_rfl⟩))

/-- The entry of `p` where `d` is its row's least, when it is the least at one place `j` only. -/
theorem select_least {n : Nat} (d : Fin n → EReal) (p : Fin n → EReal) (j : Fin n) (h : ∀ j', j' ≠ j → d j < d j') :
    (Finset.univ.fold max ⊥ fun k => if d k = Finset.univ.fold min ⊤ d then p k else ⊥) = p j := by
  have hm : Finset.univ.fold min ⊤ d = d j := fold_min_eq d j fun j' => by
    by_cases hj : j' = j
    · rw [hj]
    · exact (h j' hj).le
  rw [hm]
  refine (fold_max_eq _ j fun j' => ?_).trans (if_pos rfl)
  by_cases hj : j' = j
  · rw [hj]
  · rw [if_neg (h j' hj).ne']
    exact bot_le

end Cert.Proof.Mid
-- ==== Proof.RefValue.lean ====
/-
  The reference's result over real coordinates with one nearest candidate per point.
-/
module

public import proofs.«01_k».proof.Proof.RefTake
public import proofs.«01_k».proof.Proof.Middle

@[expose] public section

set_option maxRecDepth 16384

noncomputable section

namespace Cert.Proof.Ref

open Idealize.ShloMosaic Idealize.ShloMosaic.TcCoe Idealize.SL.Sem
open Cert.ReferenceIdeal Cert.ReferenceIdeal.Gen

variable (x y n : FVec Ideal S4x4096x3 .f32) (X Y N : Mid.Coords)

/-- Over real coordinates the expanded distance is the real one. -/
theorem dist_real (hx : ∀ b i c, x (ix3 b i c) = ((X b i c : ℝ) : EReal)) (hy : ∀ b i c, y (ix3 b i c) = ((Y b i c : ℝ) : EReal))
    (b : Fin 4) (i j : Fin 4096) : dist x y (ix3 b i j) = ((Mid.sqDist X Y b i j : ℝ) : EReal) := by
  rw [dist_at, sq_at, sq_at, Mid.ofBits_two]
  simp only [Fin.sum_univ_three, hx, hy, Mid.sqDist]
  norm_cast

/-- The penalty array at a point whose nearest candidate is `j`. -/
theorem penal_real (hx : ∀ b i c, x (ix3 b i c) = ((X b i c : ℝ) : EReal)) (hy : ∀ b i c, y (ix3 b i c) = ((Y b i c : ℝ) : EReal))
    (hn : ∀ b i c, n (ix3 b i c) = ((N b i c : ℝ) : EReal)) (k : IVec S4x4096x1 32) (b : Fin 4) (i j : Fin 4096)
    (hk : k (ix3 b i 0) = BitVec.ofNat 32 j.val) :
    penal (signed x (takeAt y k) (takeAt n k)) (ix2 b i) = Mid.penalty (Mid.along X Y N b i j) := by
  have hs : signed x (takeAt y k) (takeAt n k) (ix2 b i) = ((Mid.along X Y N b i j : ℝ) : EReal) := by
    rw [signed_at]
    simp only [takeAt_of _ k b i _ j hk, Fin.sum_univ_three, hx, hy, hn, Mid.along]
    norm_cast
  rw [penal_at, hs, mul_comm]
  unfold Mid.penalty
  rw [Mid.coe_max]
  congr 2
  split
  · next h => exact (max_eq_left h.le).symm
  · next h => exact (max_eq_right (not_lt.mp h)).symm

/-- The reference's result: the weight times the mean penalty of the signed distances to the nearest candidates. -/
theorem out_real (J : Fin 4 → Fin 4096 → Fin 4096)
    (hx : ∀ b i c, x (ix3 b i c) = ((X b i c : ℝ) : EReal)) (hy : ∀ b i c, y (ix3 b i c) = ((Y b i c : ℝ) : EReal))
    (hn : ∀ b i c, n (ix3 b i c) = ((N b i c : ℝ) : EReal))
    (hJ : ∀ b i j', j' ≠ J b i → Mid.sqDist X Y b i (J b i) < Mid.sqDist X Y b i j') (b : Fin 4) :
    out x y n (ix1 b) = Mid.value X Y N J b := by
  unfold out
  rw [mean_at]
  unfold Mid.value
  refine congrArg (fun s => Ideal.ofBits .f32 0x3CA3D70A#32 * Ideal.div s (Ideal.ofBits .f32 0x45800000#32))
    (Finset.sum_congr rfl fun i _ => penal_real x y n X Y N hx hy hn _ b i (J b i) ?_)
  rw [col_at]
  refine argmin_at _ b i (J b i) ?_ fun j' hj => ?_
  · rw [dist_real x y X Y hx hy]
    exact EReal.coe_lt_top _
  · rw [dist_real x y X Y hx hy, dist_real x y X Y hx hy]
    exact EReal.coe_lt_coe_iff.mpr (hJ b i j' hj)

end Cert.Proof.Ref
-- ==== Proof.KerBody.lean ====
/-
  What one grid point of the kernel leaves in its output block, as a pure function of the two input blocks (and, at the
  second point of a batch, of what the first point left).
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem hz3 : (![0, 0, 0] : Fin 3 → Nat) = fun _ => 0 := funext fun a => by fin_cases a <;> rfl

/-- The second point of a batch: the block's sum is added to what the first point left, and the total is scaled. -/
theorem out_B (c : Dev nD) (i : grid0.Coords) (a2 : Memref sig .tc .vmem S1x2048x5 .bf16) (h2 : a2.IsWhole)
    (a3 : Memref sig .tc .vmem S1x5x8192 .bf16) (h3 : a3.IsWhole) (a4 : Memref sig .tc .vmem S1x8x128 .f32)
    (h4 : a4.IsWhole) (hc0 : ¬cond0_0 i) (hc1 : cond0_1 i) (x0 : Vec F S1x2048x5 .bf16) (x1 : Vec F S1x5x8192 .bf16)
    (xo : Vec F S1x8x128 .f32) :
    out0_B_2 c i a2 h2 a3 h3 a4 h4 hc0 hc1 x0 x1 xo = k0_pay1 (k0_pay3 x0 x1 xo) := by
  unfold out0_B_2
  rw [View.read_writes_eq_canon _ _ _ (cover0_B_2 c i a2 h2 a3 h3 a4 h4 hc0 hc1 x0 x1 xo)]
  unfold kernelRun0_B
  dsimp only
  sl_unfold_words
  rw [View.canon_cons_unit_zero (S := S1x8x128) hz3]
  simp only [View.readCov_unit_zero (S := S1x8x128) _ hz3, View.readAt_eq_ld, h2.read_unread, h3.read_unread, h4.read_unread,
    View.ld_unit_zero (S := S1x8x128) hz3, View.ld_unit_zero (S := S1x2048x5) hz3, View.ld_unit_zero (S := S1x5x8192) hz3]

/-- The first point of a batch: the block is zeroed and the block's sum added. -/
theorem out_A (c : Dev nD) (i : grid0.Coords) (a2 : Memref sig .tc .vmem S1x2048x5 .bf16) (h2 : a2.IsWhole)
    (a3 : Memref sig .tc .vmem S1x5x8192 .bf16) (h3 : a3.IsWhole) (a4 : Memref sig .tc .vmem S1x8x128 .f32)
    (h4 : a4.IsWhole) (hc0 : cond0_0 i) (hc1 : ¬cond0_1 i) (x0 : Vec F S1x2048x5 .bf16) (x1 : Vec F S1x5x8192 .bf16) :
    out0_A_2 c i a2 h2 a3 h3 a4 h4 hc0 hc1 x0 x1 = k0_pay3 x0 x1 k0_pay2 := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1x8x128) hz3]
  simp only [View.readCov_unit_zero (S := S1x8x128) _ hz3, View.readAt_eq_ld, h2.read_unread, h3.read_unread,
    View.ld_unit_zero (S := S1x8x128) hz3, View.ld_unit_zero (S := S1x2048x5) hz3, View.ld_unit_zero (S := S1x5x8192) hz3]

end Cert.Proof.Ker

end
-- ==== Proof.KerRun.lean ====
/-
  What the kernel's run leaves: the launch's output array, block by block, and the result the host operations after
  the launch make of it.
-/
module

public import proofs.«01_k».proof.Proof.KerBody
public import Idealize.ShloMosaic.Lib.Pipeline.ValueKit
public import Idealize.ShloMosaic.Lib.Pointwise

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The grid point at which half `k` of batch `b` is handled. -/
def pt (b : Fin 4) (k : Fin 2) : Fin cfg0.N := ⟨2 * b.val + k.val, by have : cfg0.N = 8 := N_0; omega⟩

/-- The output block of batch `b` when it is written back, out of the four input blocks of its two points. -/
def batchBlock (c : Dev nD) (b : Fin 4) : Vec F S1x8x128 .f32 :=
  k0_pay1 (k0_pay3 (iblk m c 0 (pt b 1)) (iblk m c 1 (pt b 1))
    (k0_pay3 (iblk m c 0 (pt b 0)) (iblk m c 1 (pt b 0)) k0_pay2))

/-- At the first point of a batch the block holds that point's sum. -/
theorem outs_even (c : Dev nD) (t : Fin cfg0.N) (b : Fin 4) (ht : t = pt b 0) :
    outsAt0 m c t.val t.isLt = k0_pay3 (iblk m c 0 (pt b 0)) (iblk m c 1 (pt b 0)) k0_pay2 := by
  subst ht
  have h0 : (pt b 0).val % 2 = 0 := (by omega : (2 * b.val + 0) % 2 = 0)
  rw [outsAt0_A m c (pt b 0) h0 (by omega)]
  exact out_A c _ _ _ _ _ _ _ _ _ _ _

/-- At the second point of a batch the block holds the scaled sum of both. -/
theorem outs_odd (c : Dev nD) (t : Fin cfg0.N) (b : Fin 4) (ht : t = pt b 1) :
    outsAt0 m c t.val t.isLt = batchBlock m c b := by
  subst ht
  have h1 : (pt b 1).val % 2 = 1 := (by omega : (2 * b.val + 1) % 2 = 1)
  rw [outsAt0_B m c (pt b 1) (by omega) h1, out_B c]
  unfold batchBlock
  exact congrArg k0_pay1 (congrArg (k0_pay3 _ _) (outs_even m c ⟨(pt b 1).val - 1, by omega⟩ b (Fin.ext rfl)))

/-- The launch's output array after the run. -/
def result (c : Dev nD) : Vec F S4x8x128 .f32 := fun i => batchBlock m c (i 0) (ix3 0 (i 1) (i 2))

theorem idx2 : ∀ t : Fin cfg0.N, win0_2.index t = ![t.val / 2, 0, 0] := by decide +kernel

theorem final (c : Dev nD) : (dats m 0 c).arrAt 2 cfg0.N = result m c := by
  refine (dats m 0 c).arrAt_eq_of_covers 2 _ (by decide +kernel) fun t hf y => ?_
  have h1 : t.val % 2 = 1 := (flush0_2 t).mp hf
  have hN : cfg0.N = 8 := N_0
  have hlt : t.val < cfg0.N := t.isLt
  blk_simp
  rw [after0_2, outs_odd m c t ⟨t.val / 2, by omega⟩ (Fin.ext (by show t.val = 2 * (t.val / 2) + 1; omega))]
  unfold result
  have e0 : (win0_2.blk t).view.emb y 0 = (⟨t.val / 2, by omega⟩ : Fin 4) := by
    apply Fin.ext
    idx_bounds_all
    blk_simp [idx2 t]
  rw [e0]
  refine congrArg (batchBlock m c _) ?_
  blk_ext [idx2 t]

/-- What the host operations after the launch make of the output array. -/
def tail (r : Vec F S4x8x128 .f32) : Vec F S4 .f32 :=
  Host.divf (shapeCast S4 (extractStridedSlice S4x1x1 ![0, 0, 0] r slices_S4x8x128_S4x1x1_0_0_0) shapeCasts_S4x1x1_S4)
    (broadcastInDim S4 ![] bcast_S_S4 (constant S_ .f32 0x45800000#32))

theorem afterTail (c : Dev nD) :
    Pipeline.afterTail₀ cfgs (dats m) 0 (V0 m) [hostOps1] c main_v30 = tail (result m c) := by
  have e : Pipeline.withArrays spec0 c (V0 m c) (fun w => (dats m 0 c).arrAt w cfg0.N) (Proc.devRef .tc main_v26) = result m c :=
    (Pipeline.withArrays_arr spec0 launch0.win.arr_inj c _ _ 2).trans (final m c)
  show StableHlo.after [hostOps1].flatten _ (Proc.devRef .tc main_v30) = _
  after_results_simp
  exact congrArg tail e

theorem run : θ_run defs (onTc (τ := τ) (main (F := F))) ⟨m, fun _ => 0, ρ⟩ fun r => ∀ c : Dev nD,
      r.2.mem ((c.tc : Thread nD τ).loc main_v30) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_⟩) (θ_run_and (run_main m ρ) (frame m ρ))
  · exact ((h.1 c).2 main_v30 (Pipeline.mem_restRefs_of main_v30 (by decide) (by decide))).trans (afterTail m c)
  · exact h.2.1 c

end Cert.Proof.Ker
-- ==== Proof.KerBlock.lean ====
/-
  What one point of the kernel adds to its output block, at the extended reals: the sum over the block's rows of the
  exponential of five times the positive part of the row's selected signed distance.
-/
module

public import proofs.«01_k».proof.Proof.KerRun

@[expose] public section

set_option maxRecDepth 16384

noncomputable section

namespace Cert.Proof.Ker

open Idealize.ShloMosaic Idealize.ShloMosaic.TcCoe Idealize.SL.Sem
open Cert.KernelIdeal Cert.KernelIdeal.Gen

variable {F : FTy → Type} [FloatOps F]

/-- The one matrix product of a point: the rows against the block's 8192 columns. -/
def prod (x0 : Vec F S1x2048x5 .bf16) (x1 : Vec F S1x5x8192 .bf16) : FVec F S2048x8192 .f32 :=
  matmul dot_S2048x5_S5x8192_S2048x8192_1_0_0_1_n_n none (shapeCast S2048x5 x0 shapeCasts_S1x2048x5_S2048x5)
    (shapeCast S5x8192 x1 shapeCasts_S1x5x8192_S5x8192) (constant S2048x8192 .f32 0x00000000#32)

/-- The product's first half of columns: the distances, up to a term that depends on the row alone. -/
def near (v : FVec F S2048x8192 .f32) : FVec F S2048x4096 .f32 :=
  extractStridedSlice S2048x4096 ![0, 0] v slices_S2048x8192_o0_0_S2048x4096

/-- The product's second half of columns: the signed distances. -/
def side (v : FVec F S2048x8192 .f32) : FVec F S2048x4096 .f32 :=
  extractStridedSlice S2048x4096 ![0, 4096] v slices_S2048x8192_o0_4096_S2048x4096

/-- The least entry of each row. -/
def least (d : FVec F S2048x4096 .f32) : FVec F S2048 .f32 :=
  multiReduction .minimumf [1] S2048 d 0x7F800000#32 reduces_S2048x4096_S2048 (.inl rfl) rfl

/-- Each entry of `p` where `d` is its row's least `l`, minus infinity elsewhere. -/
def mask (d : FVec F S2048x4096 .f32) (l : FVec F S2048 .f32) (p : FVec F S2048x4096 .f32) : FVec F S2048x4096 .f32 :=
  select (cmpf .oeq d (broadcastTo S2048x4096 (shapeCast S2048x1 l shapeCasts_S2048_S2048x1) broadcasts_S2048x1_S2048x4096))
    p (broadcast S2048x4096 (Scalar.ofBits .f32 0xFF800000#32))

/-- The greatest entry of each row. -/
def greatest (p : FVec F S2048x4096 .f32) : FVec F S2048 .f32 :=
  multiReduction .maximumf [1] S2048 p 0xFF800000#32 reduces_S2048x4096_S2048 (.inl rfl) rfl

/-- The exponential of five times the positive part. -/
def expo (s : FVec F S2048 .f32) : FVec F S2048 .f32 :=
  exp (mulf (broadcast S2048 (Scalar.ofBits .f32 0x40A00000#32)) (maximumf s (broadcast S2048 (Scalar.ofBits .f32 0x00000000#32))))

/-- The sum over the rows. -/
def total (e : FVec F S2048 .f32) : F .f32 :=
  extractAt ![0, 0] (shapeCast S1x1 (multiReduction .add [1] S1 (shapeCast S1x2048 e shapeCasts_S2048_S1x2048) 0x00000000#32
    reduces_S1x2048_S1 (.inl rfl) rfl) shapeCasts_S1_S1x1) inpos_S1x1_p0_0

/-- What a point adds to every cell of its output block. -/
def addend (x0 : Vec F S1x2048x5 .bf16) (x1 : Vec F S1x5x8192 .bf16) : F .f32 :=
  total (expo (greatest (mask (near (prod x0 x1)) (least (near (prod x0 x1))) (side (prod x0 x1)))))

theorem pay3_eq (x0 : Vec F S1x2048x5 .bf16) (x1 : Vec F S1x5x8192 .bf16) (acc : Vec F S1x8x128 .f32) :
    k0_pay3 x0 x1 acc = addf (shapeCast S1x8x128 acc shapeCasts_S1x8x128_S1x8x128) (broadcast S1x8x128 (addend x0 x1)) := rfl

theorem prod_at (x0 : Vec Ideal S1x2048x5 .bf16) (x1 : Vec Ideal S1x5x8192 .bf16) (r : Fin 2048) (j : Fin 8192) :
    prod x0 x1 (ix2 r j) = ∑ k : Fin 5, x0 (ix3 0 r k) * x1 (ix3 0 k j) := by
  pointwise [prod]

theorem near_at (v : FVec Ideal S2048x8192 .f32) (r : Fin 2048) (j : Fin 4096) :
    near v (ix2 r j) = v (ix2 r ⟨j.val, by omega⟩) := by
  pointwise [near]

theorem side_at (v : FVec Ideal S2048x8192 .f32) (r : Fin 2048) (j : Fin 4096) :
    side v (ix2 r j) = v (ix2 r ⟨4096 + j.val, by omega⟩) := by
  pointwise [side]

theorem mask_at (d p : FVec Ideal S2048x4096 .f32) (l : FVec Ideal S2048 .f32) (r : Fin 2048) (j : Fin 4096) :
    mask d l p (ix2 r j) = if d (ix2 r j) = l (ix1 r) then p (ix2 r j) else Ideal.ofBits .f32 0xFF800000#32 := by
  pointwise [mask]

theorem expo_at (s : FVec Ideal S2048 .f32) (r : Fin 2048) :
    expo s (ix1 r) = Ideal.exp (Ideal.ofBits .f32 0x40A00000#32 * max (s (ix1 r)) 0) := by
  pointwise [expo]

theorem total_at (e : FVec Ideal S2048 .f32) : total e = ∑ r : Fin 2048, e (ix1 r) := by
  pointwise [total]

theorem least_at (d : FVec Ideal S2048x4096 .f32) (r : Fin 2048) :
    least d (ix1 r) = Finset.univ.fold min (Ideal.ofBits .f32 0x7F800000#32) fun j : Fin 4096 => d (ix2 r j) := by
  pointwise [least]

theorem greatest_at (d : FVec Ideal S2048x4096 .f32) (r : Fin 2048) :
    greatest d (ix1 r) = Finset.univ.fold max (Ideal.ofBits .f32 0xFF800000#32) fun j : Fin 4096 => d (ix2 r j) := by
  pointwise [greatest]

theorem add_at (acc : FVec Ideal S1x8x128 .f32) (s : Ideal .f32) (a : Fin 1) (b : Fin 8) (l : Fin 128) :
    addf (shapeCast S1x8x128 acc shapeCasts_S1x8x128_S1x8x128) (broadcast S1x8x128 s) (ix3 a b l) = acc (ix3 a b l) + s := by
  rw [shapeCast_self]
  rfl

/-- A point adds one number to every cell of its output block. -/
theorem pay3_at (x0 : Vec Ideal S1x2048x5 .bf16) (x1 : Vec Ideal S1x5x8192 .bf16) (acc : Vec Ideal S1x8x128 .f32)
    (a : Fin 1) (b : Fin 8) (l : Fin 128) :
    k0_pay3 x0 x1 acc (ix3 a b l) = acc (ix3 a b l) + addend x0 x1 :=
  (congrFun (pay3_eq x0 x1 acc) (ix3 a b l)).trans (add_at acc (addend x0 x1) a b l)

theorem pay1_at (v : Vec Ideal S1x8x128 .f32) (a : Fin 1) (b : Fin 8) (l : Fin 128) :
    k0_pay1 v (ix3 a b l) = v (ix3 a b l) * Ideal.ofBits .f32 0x3CA3D70A#32 := by
  pointwise [k0_pay1]

theorem pay2_at (a : Fin 1) (b : Fin 8) (l : Fin 128) : k0_pay2 (F := Ideal) (ix3 a b l) = 0 := by
  pointwise [k0_pay2]

theorem tail_at (r : Vec Ideal S4x8x128 .f32) (b : Fin 4) :
    tail r (ix1 b) = Ideal.div (r (ix3 b 0 0)) (Ideal.ofBits .f32 0x45800000#32) := by
  pointwise [tail]

end Cert.Proof.Ker
-- ==== Proof.KerInput.lean ====
/-
  What the two arrays handed to the launch hold: each point with two ones after its coordinates, and for each candidate
  the column of its distance and the column of its signed distance.
-/
module

public import proofs.«01_k».proof.Proof.KerRun
public import Idealize.ShloMosaic.Lib.Claim

@[expose] public section

set_option maxRecDepth 16384

noncomputable section

namespace Cert.Proof.Ker

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The points, each with two ones after its coordinates. -/
def rows (x : FVec F S4x4096x3 .f32) : FVec F S4x4096x5 .bf16 :=
  truncf .bf16 (concatenate S4x4096x5 2 [⟨S4x4096x3, x⟩, ⟨S4x4096x2, broadcastInDim S4x4096x2 ![] bcast_S_S4x4096x2 (constant S_ .f32 0x3F800000#32)⟩]
    concatenates_S4x4096x3_S4x4096x2_S4x4096x5_d2) bitsLt_bf16_f32

/-- Coordinates along the second axis instead of the third. -/
def flip (x : FVec F S4x4096x3 .f32) : FVec F S4x3x4096 .f32 := transpose S4x3x4096 [0, 2, 1] x transposes_S4x4096x3_S4x3x4096_0_2_1

/-- The inner product of two sets of vectors, coordinates along the second axis. -/
def inner (u v : FVec F S4x3x4096 .f32) : FVec F S4x1x4096 .f32 :=
  broadcastInDim S4x1x4096 ![0, 2] bcast_S4x4096_S4x1x4096_0_2
    (Host.reduceAdd (mulf u v) (constant S_ .f32 0x00000000#32) reducesTo_S4x3x4096_S4x4096_d1 h_S_)

/-- The distance columns: minus twice the candidate, and its squared length as a rounded part and a remainder. -/
def distCols (y : FVec F S4x4096x3 .f32) : FVec F S4x5x4096 .bf16 :=
  concatenate S4x5x4096 1
    [⟨S4x3x4096, truncf .bf16 (mulf (broadcastInDim S4x3x4096 ![] bcast_S_S4x3x4096 (constant S_ .f32 0xC0000000#32)) (flip y)) bitsLt_bf16_f32⟩,
      ⟨S4x1x4096, truncf .bf16 (inner (flip y) (flip y)) bitsLt_bf16_f32⟩,
      ⟨S4x1x4096, truncf .bf16 (subf (inner (flip y) (flip y)) (extf .f32 (truncf .bf16 (inner (flip y) (flip y)) bitsLt_bf16_f32) bitsLt_bf16_f32)) bitsLt_bf16_f32⟩]
    concatenates_S4x3x4096_S4x1x4096_S4x1x4096_S4x5x4096_d1

/-- The signed-distance columns: the candidate's normal, minus its inner product with the candidate, and a zero. -/
def sideCols (y n : FVec F S4x4096x3 .f32) : FVec F S4x5x4096 .bf16 :=
  concatenate S4x5x4096 1
    [⟨S4x3x4096, truncf .bf16 (flip n) bitsLt_bf16_f32⟩,
      ⟨S4x1x4096, truncf .bf16 (Host.negf (inner (flip y) (flip n))) bitsLt_bf16_f32⟩,
      ⟨S4x1x4096, broadcastInDim S4x1x4096 ![] bcast_S_S4x1x4096 (constant S_ .bf16 0x0000#16)⟩]
    concatenates_S4x3x4096_S4x1x4096_S4x1x4096_S4x5x4096_d1

/-- Both halves of the columns. -/
def cols (y n : FVec F S4x4096x3 .f32) : FVec F S4x5x8192 .bf16 :=
  concatenate S4x5x8192 2 [⟨S4x5x4096, distCols y⟩, ⟨S4x5x4096, sideCols y n⟩] concatenates_S4x5x4096_S4x5x4096_S4x5x8192_d2

theorem V_rows (c : Dev nD) : V m c main_v2 = rows (m ((c : Thread nD τ).loc main_arg0)) := by
  entry_read
  rfl

-- the entry's value is a tower of thirty operations, and comparing it with `cols` unfolds all of it
set_option maxHeartbeats 4000000 in
theorem V_cols (c : Dev nD) : V m c main_v25 = cols (m ((c : Thread nD τ).loc main_arg1)) (m ((c : Thread nD τ).loc main_arg2)) := by
  entry_read
  rfl

theorem rows_at (x : FVec Ideal S4x4096x3 .f32) (b : Fin 4) (i : Fin 4096) (k : Fin 5) :
    rows x (ix3 b i k) = if h : k.val < 3 then x (ix3 b i ⟨k.val, h⟩) else 1 := by
  pointwise [rows]

theorem flip_at (x : FVec Ideal S4x4096x3 .f32) (b : Fin 4) (i : Fin 4096) (k : Fin 3) :
    flip x (ix3 b k i) = x (ix3 b i k) := by
  pointwise [flip]

theorem inner_at (x y : FVec Ideal S4x3x4096 .f32) (b : Fin 4) (i : Fin 4096) (k : Fin 1) :
    inner x y (ix3 b k i) = ∑ k : Fin 3, x (ix3 b k i) * y (ix3 b k i) := by
  pointwise [inner]

theorem distCols_at (y : FVec Ideal S4x4096x3 .f32) (b : Fin 4) (i : Fin 4096) (k : Fin 5) :
    distCols y (ix3 b k i) = if h : k.val < 3 then Ideal.ofBits .f32 0xC0000000#32 * flip y (ix3 b ⟨k.val, h⟩ i)
      else if k.val - 3 < 1 then inner (flip y) (flip y) (ix3 b 0 i)
      else inner (flip y) (flip y) (ix3 b 0 i) - inner (flip y) (flip y) (ix3 b 0 i) := by
  pointwise [distCols]
  simp only [inner_at]
  rfl

theorem sideCols_at (y n : FVec Ideal S4x4096x3 .f32) (b : Fin 4) (i : Fin 4096) (k : Fin 5) :
    sideCols y n (ix3 b k i) = if h : k.val < 3 then flip n (ix3 b ⟨k.val, h⟩ i)
      else if k.val - 3 < 1 then -inner (flip y) (flip n) (ix3 b 0 i)
      else 0 := by
  pointwise [sideCols]
  simp only [inner_at]
  rfl

theorem cols_at (y n : FVec Ideal S4x4096x3 .f32) (b : Fin 4) (i : Fin 8192) (k : Fin 5) :
    cols y n (ix3 b k i) = if h : i.val < 4096 then distCols y (ix3 b k ⟨i.val, h⟩)
      else sideCols y n (ix3 b k ⟨i.val - 4096, by omega⟩) := by
  pointwise [cols]

/-- Row `r` of half `k` of a batch. -/
def row (k : Fin 2) (r : Fin 2048) : Fin 4096 := ⟨2048 * k.val + r.val, by omega⟩

theorem idx0 : ∀ t : Fin cfg0.N, win0_0.index t = ![t.val / 2, t.val % 2, 0] := by decide +kernel
theorem idx1 : ∀ t : Fin cfg0.N, win0_1.index t = ![t.val / 2, 0, 0] := by decide +kernel

theorem pt_div (b : Fin 4) (k : Fin 2) : (pt b k).val / 2 = b.val := (by omega : (2 * b.val + k.val) / 2 = b.val)
theorem pt_mod (b : Fin 4) (k : Fin 2) : (pt b k).val % 2 = k.val := (by omega : (2 * b.val + k.val) % 2 = k.val)

theorem iblk0_at (c : Dev nD) (b : Fin 4) (k : Fin 2) (r : Fin 2048) (q : Fin 5) :
    (iblk m c 0 (pt b k) : Vec F S1x2048x5 .bf16) (ix3 0 r q) = rows (m ((c : Thread nD τ).loc main_arg0)) (ix3 b (row k r) q) := by
  rw [← V_rows]
  have hd := pt_div b k
  have hm := pt_mod b k
  unfold row
  blk_ext [iblk, idx0 (pt b k)]

theorem iblk1_at (c : Dev nD) (b : Fin 4) (k : Fin 2) (q : Fin 5) (j : Fin 8192) :
    (iblk m c 1 (pt b k) : Vec F S1x5x8192 .bf16) (ix3 0 q j)
      = cols (m ((c : Thread nD τ).loc main_arg1)) (m ((c : Thread nD τ).loc main_arg2)) (ix3 b q j) := by
  rw [← V_cols]
  have hd := pt_div b k
  blk_ext [iblk, idx1 (pt b k)]

end Cert.Proof.Ker
-- ==== Proof.KerValue.lean ====
/-
  The kernel's result over real coordinates with one nearest candidate per point.
-/
module

public import proofs.«01_k».proof.Proof.KerBlock
public import proofs.«01_k».proof.Proof.KerInput
public import proofs.«01_k».proof.Proof.Middle

@[expose] public section

set_option maxRecDepth 16384

noncomputable section

namespace Cert.Proof.Ker

open Idealize.ShloMosaic Idealize.ShloMosaic.TcCoe Idealize.SL.Sem
open Cert.KernelIdeal Cert.KernelIdeal.Gen

section Columns

variable (x y n : FVec Ideal S4x4096x3 .f32) (X Y N : Mid.Coords)
variable (hx : ∀ b i c, x (ix3 b i c) = ((X b i c : ℝ) : EReal)) (hy : ∀ b i c, y (ix3 b i c) = ((Y b i c : ℝ) : EReal))
  (hn : ∀ b i c, n (ix3 b i c) = ((N b i c : ℝ) : EReal))

include hx hy in
/-- A row against a distance column: the squared distance without the row's own squared length. -/
theorem row_dist (b : Fin 4) (i j : Fin 4096) :
    ∑ q : Fin 5, rows x (ix3 b i q) * distCols y (ix3 b q j) = ((Mid.relDist X Y b i j : ℝ) : EReal) := by
  simp only [Fin.sum_univ_five, rows_at, distCols_at, inner_at, flip_at, Mid.ofBits_neg_two, Fin.sum_univ_three]
  simp [hx, hy, Mid.relDist, Fin.sum_univ_three]
  norm_cast
  ring

include hx hy hn in
/-- A row against a signed-distance column: the signed distance. -/
theorem row_side (b : Fin 4) (i j : Fin 4096) :
    ∑ q : Fin 5, rows x (ix3 b i q) * sideCols y n (ix3 b q j) = ((Mid.along X Y N b i j : ℝ) : EReal) := by
  simp only [Fin.sum_univ_five, rows_at, sideCols_at, inner_at, flip_at, Fin.sum_univ_three]
  simp [hx, hy, hn, Mid.along, Fin.sum_univ_three]
  norm_cast
  ring

include hx hy hn in
/-- What the point handling half `k` of batch `b` adds: the sum over its rows of the penalties. -/
theorem addend_real (J : Fin 4 → Fin 4096 → Fin 4096)
    (hJ : ∀ b i j', j' ≠ J b i → Mid.sqDist X Y b i (J b i) < Mid.sqDist X Y b i j') (b : Fin 4) (k : Fin 2)
    (x0 : Vec Ideal S1x2048x5 .bf16) (x1 : Vec Ideal S1x5x8192 .bf16) (h0 : ∀ r q, x0 (ix3 0 r q) = rows x (ix3 b (row k r) q))
    (h1 : ∀ q j, x1 (ix3 0 q j) = cols y n (ix3 b q j)) :
    addend x0 x1 = ∑ r : Fin 2048, Mid.penalty (Mid.along X Y N b (row k r) (J b (row k r))) := by
  unfold addend
  rw [total_at]
  refine Finset.sum_congr rfl fun r _ => ?_
  have hd (j : Fin 4096) : near (prod x0 x1) (ix2 r j) = ((Mid.relDist X Y b (row k r) j : ℝ) : EReal) := by
    rw [near_at, prod_at, ← row_dist x y X Y hx hy b (row k r) j]
    refine Finset.sum_congr rfl fun q _ => ?_
    rw [h0, h1, cols_at, dif_pos j.isLt]
  have hp (j : Fin 4096) : side (prod x0 x1) (ix2 r j) = ((Mid.along X Y N b (row k r) j : ℝ) : EReal) := by
    rw [side_at, prod_at, ← row_side x y n X Y N hx hy hn b (row k r) j]
    refine Finset.sum_congr rfl fun q _ => ?_
    have hj : ¬(4096 + j.val < 4096) := by omega
    rw [h0, h1, cols_at, dif_neg hj]
    refine congrArg (fun j' => rows x (ix3 b (row k r) q) * sideCols y n (ix3 b q j')) (Fin.ext ?_)
    show 4096 + j.val - 4096 = j.val
    omega
  have hg : greatest (mask (near (prod x0 x1)) (least (near (prod x0 x1))) (side (prod x0 x1))) (ix1 r)
      = ((Mid.along X Y N b (row k r) (J b (row k r)) : ℝ) : EReal) := by
    rw [greatest_at, Mid.ofBits_bot]
    simp only [mask_at, hd, hp, least_at, Mid.ofBits_top, Mid.ofBits_bot]
    exact Mid.select_least (fun j => ((Mid.relDist X Y b (row k r) j : ℝ) : EReal))
      (fun j => ((Mid.along X Y N b (row k r) j : ℝ) : EReal)) (J b (row k r))
      fun j' hj => EReal.coe_lt_coe_iff.mpr (Mid.relDist_lt X Y b _ _ _ (hJ b (row k r) j' hj))
  rw [expo_at, hg]
  unfold Mid.penalty
  rw [Mid.coe_max]

end Columns

/-- A sum over a batch's points, half by half. -/
theorem sum_halves (f : Fin 4096 → EReal) : ∑ i, f i = ∑ r : Fin 2048, f (row 0 r) + ∑ r : Fin 2048, f (row 1 r) := by
  refine (Fin.sum_univ_add (a := 2048) (b := 2048) f).trans ?_
  congr 1

/-- Scaling before or after the division by a nonzero number is the same. -/
theorem scale_div (s w d : EReal) (hd : d ≠ 0) : Ideal.div (s * w) d = w * Ideal.div s d := by
  unfold Ideal.div
  rw [if_neg hd, if_neg hd, mul_comm s w, mul_assoc]

/-- The kernel's result: the weight times the mean penalty of the signed distances to the nearest candidates. -/
theorem tail_real (m : (ℓ : Loc nD τ sig) → Buf (Elt Ideal) ℓ) (c : Dev nD) (X Y N : Mid.Coords) (J : Fin 4 → Fin 4096 → Fin 4096)
    (hx : ∀ b i k, (m ((c : Thread nD τ).loc main_arg0) : FVec Ideal S4x4096x3 .f32) (ix3 b i k) = ((X b i k : ℝ) : EReal))
    (hy : ∀ b i k, (m ((c : Thread nD τ).loc main_arg1) : FVec Ideal S4x4096x3 .f32) (ix3 b i k) = ((Y b i k : ℝ) : EReal))
    (hn : ∀ b i k, (m ((c : Thread nD τ).loc main_arg2) : FVec Ideal S4x4096x3 .f32) (ix3 b i k) = ((N b i k : ℝ) : EReal))
    (hJ : ∀ b i j', j' ≠ J b i → Mid.sqDist X Y b i (J b i) < Mid.sqDist X Y b i j') (b : Fin 4) :
    tail (result m c) (ix1 b) = Mid.value X Y N J b := by
  have hs (k : Fin 2) := addend_real _ _ _ X Y N hx hy hn J hJ b k (iblk m c 0 (pt b k)) (iblk m c 1 (pt b k))
    (fun r q => iblk0_at m c b k r q) (fun q j => iblk1_at m c b k q j)
  have hr : result m c (ix3 b 0 0) = (0 + addend (iblk m c 0 (pt b 0)) (iblk m c 1 (pt b 0))
      + addend (iblk m c 0 (pt b 1)) (iblk m c 1 (pt b 1))) * Ideal.ofBits .f32 0x3CA3D70A#32 := by
    show batchBlock m c b (ix3 0 0 0) = _
    unfold batchBlock
    rw [pay1_at, pay3_at, pay3_at, pay2_at]
  have h4 : Ideal.ofBits .f32 0x45800000#32 ≠ 0 := by
    rw [Mid.ofBits_4096]
    exact_mod_cast (by norm_num : (4096 : ℝ) ≠ 0)
  rw [tail_at, hr, scale_div _ _ _ h4, hs 0, hs 1, zero_add]
  unfold Mid.value
  rw [sum_halves]

end Cert.Proof.Ker
-- ==== Proof.PreRead.lean ====
/-
  What the precondition says: every coordinate is finite, and in every row of the squared distances one entry is less
  than all the others.
-/
module

public import proofs.«01_k».proof.Proof.RefTake
public import proofs.«01_k».proof.Proof.Gen.Pre_one_nearest
public import Idealize.ShloMosaic.Lib.IndicatorCount
public import Idealize.ShloMosaic.Lib.ReduceAll

@[expose] public section

set_option maxRecDepth 16384

noncomputable section

namespace Cert.Proof.Pre

open Idealize.ShloMosaic Idealize.ShloMosaic.TcCoe Idealize.SL.Sem
open Cert.Pre_one_nearest Cert.Pre_one_nearest.Gen

/-- How many entries of each row are its least. -/
def count (d : FVec Ideal S4x4096x4096 .f32) : IVec S4x4096 32 :=
  Host.reduce IntOp.addi
    (extui 32 (cmpf .oeq d (broadcastInDim S4x4096x4096 ![0, 1, 2] bcast_S4x4096x1_S4x4096x4096_0_1_2
      (broadcastInDim S4x4096x1 ![0, 1] bcast_S4x4096_S4x4096x1_0_1
        (Host.reduce FloatOps.minimumf d (constant (F := Ideal) S_ .f32 0x7F800000#32) reducesTo_S4x4096x4096_S4x4096_d2 h_S_)))) natLt_1_32)
    (constantI S_ 32 0#32) reducesTo_S4x4096x4096_S4x4096_d2 h_S_

/-- Whether a coordinate's absolute value is below infinity. -/
def bounded (x : FVec Ideal S4x4096x3 .f32) : IVec S4x4096x3 1 :=
  cmpf .olt (Host.absf x) (broadcastInDim S4x4096x3 ![] bcast_S_S4x4096x3 (constant S_ .f32 0x7F800000#32))

/-- Whether all are. -/
def allBounded (x : FVec Ideal S4x4096x3 .f32) : IVec S_ 1 :=
  Host.reduce IntOp.andi (bounded x) (constantI S_ 1 1#1) reducesTo_S4x4096x3_S_d0_1_2 h_S_

theorem fn_eq (x y n : FVec Ideal S4x4096x3 .f32) :
    fn x y n = andi (cmpi .eq (count (Ref.dist x y)) (broadcastInDim S4x4096 ![] bcast_S_S4x4096 (constantI S_ 32 1#32)))
      (broadcastInDim S4x4096 ![] bcast_S_S4x4096 (andi (andi (allBounded x) (allBounded y)) (allBounded n))) := rfl

theorem rhs_at (k : IVec S4x4096 32) (p q r : IVec S_ 1) (b : Fin 4) (i : Fin 4096) :
    andi (cmpi .eq k (broadcastInDim S4x4096 ![] bcast_S_S4x4096 (constantI S_ 32 1#32)))
      (broadcastInDim S4x4096 ![] bcast_S_S4x4096 (andi (andi p q) r)) (ix2 b i)
      = IntOp.andi (IntOp.cmpi .eq (k (ix2 b i)) 1#32) (IntOp.andi (IntOp.andi (p ix0) (q ix0)) (r ix0)) := by
  pointwise []

theorem count_at (d : FVec Ideal S4x4096x4096 .f32) (b : Fin 4) (i : Fin 4096) :
    count d (ix2 b i) = Finset.univ.fold IntOp.addi 0#32 (fun j : Fin 4096 =>
      (Ideal.cmp .oeq (d (ix3 b i j)) (Finset.univ.fold min (Ideal.ofBits .f32 0x7F800000#32) fun j : Fin 4096 => d (ix3 b i j))).setWidth 32) := by
  pointwise [count]

theorem bounded_at (x : FVec Ideal S4x4096x3 .f32) (b : Fin 4) (i : Fin 4096) (c : Fin 3) :
    bounded x (ix3 b i c) = Ideal.cmp .olt (max (x (ix3 b i c)) (-(x (ix3 b i c)))) (Ideal.ofBits .f32 0x7F800000#32) := by
  pointwise [bounded]
  rfl

theorem ofBool_one (c : Prop) [Decidable c] : BitVec.ofBool (decide c) = 1#1 ↔ c := by
  by_cases h : c <;> simp [h]

theorem cmpi_eq_one {a b : BitVec 32} (h : IntOp.cmpi .eq a b = 1#1) : a = b := by
  by_contra hne
  have hb : (a == b) = false := beq_false_of_ne hne
  simp [IntOp.cmpi, hb] at h

/-- An extended real whose absolute value is below infinity is a real number. -/
theorem real_of_abs (a : EReal) (h : max a (-a) < ⊤) : ∃ r : ℝ, a = r := by
  induction a with
  | bot => simp at h
  | top => simp at h
  | coe r => exact ⟨r, rfl⟩

theorem real_of_allBounded (x : FVec Ideal S4x4096x3 .f32) (h : allBounded x ix0 = 1#1) (b : Fin 4) (i : Fin 4096) (c : Fin 3) :
    ∃ r : ℝ, x (ix3 b i c) = (r : EReal) := by
  haveI : Subsingleton S_.Idx := ⟨fun p q => funext fun a => a.elim0⟩
  have e := Host.reduce_andi_all (bounded x) _ _ _ ix0 h (ix3 b i c)
  rw [bounded_at, Ref.ofBits_inf] at e
  exact real_of_abs _ ((ofBool_one _).mp e)

/-- A fold of `min` from infinity is at most every entry. -/
theorem fold_min_le_at {n : Nat} (f : Fin n → EReal) (j : Fin n) : Finset.univ.fold min ⊤ f ≤ f j :=
  Finset.fold_min_le (f j) |>.mpr (.inr ⟨j, Finset.mem_univ j, le_rfl⟩)

/-- A row with one entry equal to its least has an entry less than all the others. -/
theorem least_of_count (d : FVec Ideal S4x4096x4096 .f32) (b : Fin 4) (i : Fin 4096) (h : count d (ix2 b i) = 1#32) :
    ∃ j : Fin 4096, ∀ j', j' ≠ j → d (ix3 b i j) < d (ix3 b i j') := by
  rw [count_at, Ref.ofBits_inf, IndicatorCount.fold_addi_setWidth_eq_card] at h
  set S := Finset.univ.filter fun j : Fin 4096 =>
    Ideal.cmp .oeq (d (ix3 b i j)) (Finset.univ.fold min ⊤ fun j : Fin 4096 => d (ix3 b i j)) = 1#1 with hS
  have hle : S.card ≤ 4096 := by
    have := Finset.card_le_univ S
    simpa using this
  have hc : S.card = 1 := by
    have := congrArg BitVec.toNat h
    rw [BitVec.toNat_ofNat] at this
    have h1 : (1#32).toNat = 1 := rfl
    omega
  obtain ⟨j, hj⟩ := Finset.card_eq_one.mp hc
  have hmem (j' : Fin 4096) : j' ∈ S ↔ d (ix3 b i j') = Finset.univ.fold min ⊤ fun j : Fin 4096 => d (ix3 b i j) := by
    rw [hS, Finset.mem_filter]
    exact (and_iff_right (Finset.mem_univ j')).trans (ofBool_one _)
  have hjm := (hmem j).mp (by rw [hj]; exact Finset.mem_singleton_self j)
  refine ⟨j, fun j' hne => ?_⟩
  have hle' := fold_min_le_at (fun j : Fin 4096 => d (ix3 b i j)) j'
  rw [hjm]
  refine lt_of_le_of_ne hle' fun heq => hne ?_
  have : j' ∈ S := (hmem j').mpr heq.symm
  rw [hj] at this
  exact Finset.mem_singleton.mp this

theorem andi_one {a b : BitVec 1} (h : IntOp.andi a b = 1#1) : a = 1#1 ∧ b = 1#1 := by
  revert a b
  decide

/-- The precondition, read: all coordinates are real numbers, and every row of the squared distances has an entry less
    than all the others. -/
theorem read (x y n : FVec Ideal S4x4096x3 .f32) (h : fn x y n = fun _ => 1#1) :
    (∀ b i c, ∃ r : ℝ, x (ix3 b i c) = (r : EReal)) ∧ (∀ b i c, ∃ r : ℝ, y (ix3 b i c) = (r : EReal))
      ∧ (∀ b i c, ∃ r : ℝ, n (ix3 b i c) = (r : EReal))
      ∧ ∀ b i, ∃ j : Fin 4096, ∀ j', j' ≠ j → Ref.dist x y (ix3 b i j) < Ref.dist x y (ix3 b i j') := by
  have e (b : Fin 4) (i : Fin 4096) := (rhs_at (count (Ref.dist x y)) (allBounded x) (allBounded y) (allBounded n) b i).symm.trans
    ((congrFun (fn_eq x y n) (ix2 b i)).symm.trans (congrFun h (ix2 b i)))
  have e0 := andi_one (andi_one (andi_one (e 0 0)).2).1
  refine ⟨real_of_allBounded x e0.1, real_of_allBounded y e0.2, real_of_allBounded n (andi_one (andi_one (e 0 0)).2).2,
    fun b i => least_of_count (Ref.dist x y) b i ?_⟩
  exact cmpi_eq_one (andi_one (e b i)).1

end Cert.Proof.Pre
-- ==== Proof.lean ====
/-
  The five claims about the nearest-neighbour penetration penalty. The kernel, its ideal program and the reference
  run and leave their arguments unchanged; over the extended reals the kernel and the reference compute the same four
  numbers, if the inputs are finite and every point has one nearest candidate.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_nearest
public import proofs.«01_k».proof.Proof.RefValue
public import proofs.«01_k».proof.Proof.KerValue
public import proofs.«01_k».proof.Proof.PreRead
public import Idealize.ShloMosaic.Adequacy
public import Idealize.ShloMosaic.Init

@[expose] public section

noncomputable section

namespace Cert.Proof

open Idealize.ShloMosaic Idealize.SL.Sem

/-- The kernel's and the reference's results agree on inputs that satisfy the precondition. -/
theorem results_eq (m : (ℓ : Loc KernelIdeal.nD KernelIdeal.τ KernelIdeal.sig) → Buf (Elt Ideal) ℓ) (c : Dev KernelIdeal.nD)
    (x y n : FVec Ideal ReferenceIdeal.S4x4096x3 .f32)
    (ex : x = m ((c.tc : Thread KernelIdeal.nD KernelIdeal.τ).loc KernelIdeal.main_arg0))
    (ey : y = m ((c.tc : Thread KernelIdeal.nD KernelIdeal.τ).loc KernelIdeal.main_arg1))
    (en : n = m ((c.tc : Thread KernelIdeal.nD KernelIdeal.τ).loc KernelIdeal.main_arg2))
    (h : Pre_one_nearest.fn (F := Ideal) x y n = fun _ => 1#1) : Ref.out x y n = Ker.tail (Ker.result m c) := by
  obtain ⟨hx, hy, hn, hj⟩ := Pre.read x y n h
  choose X hX using hx
  choose Y hY using hy
  choose N hN using hn
  choose J hJ using hj
  have hJ' (b : Fin 4) (i j' : Fin 4096) (hne : j' ≠ J b i) : Mid.sqDist X Y b i (J b i) < Mid.sqDist X Y b i j' := by
    have := hJ b i j' hne
    rw [Ref.dist_real x y X Y hX hY, Ref.dist_real x y X Y hX hY] at this
    exact EReal.coe_lt_coe_iff.mp this
  funext q
  have hq : q = ix1 (q 0) := by
    funext k
    obtain rfl := Subsingleton.elim k 0
    rfl
  rw [hq]
  refine (Ref.out_real x y n X Y N J hX hY hN hJ' (q 0)).trans (Ker.tail_real m c X Y N J ?_ ?_ ?_ hJ' (q 0)).symm
  · exact fun b i k => (congrFun ex.symm _).trans (hX b i k)
  · exact fun b i k => (congrFun ey.symm _).trans (hY b i k)
  · exact fun b i k => (congrFun en.symm _).trans (hN b i k)

/-- The value claim: kernel and reference end with equal results, as extended reals. -/
theorem algebraic : algebraic_KernelIdeal_ReferenceIdeal_pre_one_nearest := by
  intro m ρ m' ρ' hpre hag
  refine ⟨fun c => Ker.tail (Ker.result m c), Ker.run m ρ, (θ_run _ _ _).mono (fun r hr c => ?_) (Ref.run m' ρ')⟩
  obtain ⟨h, h0, h1, h2⟩ := hr c
  obtain ⟨e0, e1, e2⟩ := hag c
  refine ⟨h.trans (results_eq m c _ _ _ e0 e1 e2 ?_), h0, h1, h2⟩
  have hp := hpre c
  rw [e0, e1, e2]
  exact hp

/-- The claims. -/
theorem claim : Cert.Claim :=
  ⟨Cert.Kernel.Gen.facts, Cert.KernelIdeal.Gen.facts, Cert.ReferenceIdeal.Gen.facts, Cert.Pre_one_nearest.Gen.facts,
    fun m ρ _ => Cert.Kernel.Gen.frame m ρ, fun m ρ _ => Cert.KernelIdeal.Gen.frame m ρ,
    fun m ρ _ => Cert.KernelIdeal.Gen.frame m ρ, fun m ρ _ => Ref.frame m ρ, fun m ρ _ => Ref.frame m ρ,
    trivial, algebraic⟩

end Cert.Proof

end
